-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_scale_is_a_scale [hPre_x_scale_is_a_scale : Cert.Pre_x_scale_is_a_scale.Facts] (m : (ℓ : Loc Cert.KernelIdeal.nD Cert.KernelIdeal.τ Cert.KernelIdeal.sig) → Buf (Elt Ideal) ℓ) : Prop :=
  ∀ c : Dev Cert.KernelIdeal.nD,
    (Cert.Pre_x_scale_is_a_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_scale_is_a_scale [hPre_x_scale_is_a_scale : Cert.Pre_x_scale_is_a_scale.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_scale_is_a_scale.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_scale_is_a_scale [hKernelIdeal : Cert.KernelIdeal.Facts] [hPre_x_scale_is_a_scale : Cert.Pre_x_scale_is_a_scale.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_scale_is_a_scale m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_scale_is_a_scale [hReferenceIdeal : Cert.ReferenceIdeal.Facts] [hPre_x_scale_is_a_scale : Cert.Pre_x_scale_is_a_scale.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_scale_is_a_scale m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_x_scale_is_a_scale [hKernelIdeal : Cert.KernelIdeal.Facts] [hReferenceIdeal : Cert.ReferenceIdeal.Facts] [hPre_x_scale_is_a_scale : Cert.Pre_x_scale_is_a_scale.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_scale_is_a_scale m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20_0) = v0 c
          ∧ r.2.mem ((c.tc : Thread Cert.ReferenceIdeal.nD Cert.ReferenceIdeal.τ).loc Cert.ReferenceIdeal.main_v20_1) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_x_scale_is_a_scale : Cert.Pre_x_scale_is_a_scale.Facts),
    quiescent_Kernel (hKernel := hKernel)
    ∧ quiescent_KernelIdeal (hKernelIdeal := hKernelIdeal)
    ∧ quiescent_KernelIdeal_pre_x_scale_is_a_scale (hKernelIdeal := hKernelIdeal) (hPre_x_scale_is_a_scale := hPre_x_scale_is_a_scale)
    ∧ quiescent_ReferenceIdeal (hReferenceIdeal := hReferenceIdeal)
    ∧ quiescent_ReferenceIdeal_pre_x_scale_is_a_scale (hReferenceIdeal := hReferenceIdeal) (hPre_x_scale_is_a_scale := hPre_x_scale_is_a_scale)
    ∧ preserves_Kernel_KernelIdeal
    ∧ algebraic_KernelIdeal_ReferenceIdeal_pre_x_scale_is_a_scale (hKernelIdeal := hKernelIdeal) (hReferenceIdeal := hReferenceIdeal) (hPre_x_scale_is_a_scale := hPre_x_scale_is_a_scale)
-- ==== Pre_x_scale_is_a_scale.lean ====
abbrev S4x8192x5120 : Shape := ⟨3, ![4, 8192, 5120]⟩
abbrev S_ : Shape := ⟨0, ![]⟩
abbrev S4x8192x27648 : Shape := ⟨3, ![4, 8192, 27648]⟩
abbrev S5120x27648 : Shape := ⟨2, ![5120, 27648]⟩

class Facts : Prop where

variable [Facts]

def fn {F : FTy → Type} [FloatOps F] (main_arg0 : FVec F S4x8192x5120 .fp8e4m3) (main_arg1 : FVec F S_ .f32) (main_arg2 : FVec F S4x8192x27648 .bf16) (main_arg3 : FVec F S5120x27648 .f32) : IVec S_ 1 :=
  let main_cst : FVec F S_ .f32 := constant S_ .f32 0x00000000#32
  let main_v0 : IVec S_ 1 := cmpf .oge main_arg1 main_cst
  let main_cst_0 : FVec F S_ .f32 := constant S_ .f32 0x7F800000#32
  let main_v1 : IVec S_ 1 := cmpf .olt main_arg1 main_cst_0
  let main_v2 : IVec S_ 1 := andi main_v0 main_v1
  main_v2
-- ==== Kernel.lean ====
abbrev S4x8192x5120 : Shape := ⟨3, ![4, 8192, 5120]⟩
abbrev S_ : Shape := ⟨0, ![]⟩
abbrev S4x8192x27648 : Shape := ⟨3, ![4, 8192, 27648]⟩
abbrev S5120x27648 : Shape := ⟨2, ![5120, 27648]⟩
abbrev S32768x5120 : Shape := ⟨2, ![32768, 5120]⟩
abbrev S32768x27648 : Shape := ⟨2, ![32768, 27648]⟩
abbrev S1x1 : Shape := ⟨2, ![1, 1]⟩
abbrev S256x27648 : Shape := ⟨2, ![256, 27648]⟩
abbrev S16x27648 : Shape := ⟨2, ![16, 27648]⟩
abbrev S16x16x27648 : Shape := ⟨3, ![16, 16, 27648]⟩
abbrev S1x16x27648 : Shape := ⟨3, ![1, 16, 27648]⟩
abbrev S1 : Shape := ⟨1, ![1]⟩
abbrev S1x1x1 : Shape := ⟨3, ![1, 1, 1]⟩
abbrev S239 : Shape := ⟨1, ![239]⟩
abbrev S2 : Shape := ⟨1, ![2]⟩
abbrev S1024x5120 : Shape := ⟨2, ![1024, 5120]⟩
abbrev S1024x1024 : Shape := ⟨2, ![1024, 1024]⟩
abbrev S160x1024 : Shape := ⟨2, ![160, 1024]⟩
abbrev S5120x1024 : Shape := ⟨2, ![5120, 1024]⟩
abbrev S512x1024 : Shape := ⟨2, ![512, 1024]⟩
abbrev S1024x512 : Shape := ⟨2, ![1024, 512]⟩

abbrev nBuf : Space → Nat
  | .hbm => 61
  | .vmem => 13
  | .smem => 2
  | _ => 0

abbrev bufTy : (tb : Table) → Fin (tcTables nBuf tb) → BufTy
  | .hbm, ⟨0, _⟩ => ⟨S4x8192x5120, .fp8e4m3⟩
  | .hbm, ⟨1, _⟩ => ⟨S_, .f32⟩
  | .hbm, ⟨2, _⟩ => ⟨S4x8192x27648, .bf16⟩
  | .hbm, ⟨3, _⟩ => ⟨S5120x27648, .f32⟩
  | .hbm, ⟨4, _⟩ => ⟨S32768x5120, .fp8e4m3⟩
  | .hbm, ⟨5, _⟩ => ⟨S32768x27648, .bf16⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S239, .i32⟩
  | .hbm, ⟨11, _⟩ => ⟨S_, .i32⟩
  | .hbm, ⟨12, _⟩ => ⟨S239, .i32⟩
  | .hbm, ⟨13, _⟩ => ⟨S239, .i32⟩
  | .hbm, ⟨14, _⟩ => ⟨S_, .i32⟩
  | .hbm, ⟨15, _⟩ => ⟨S239, .i32⟩
  | .hbm, ⟨16, _⟩ => ⟨S239, .i32⟩
  | .hbm, ⟨17, _⟩ => ⟨S_, .i32⟩
  | .hbm, ⟨18, _⟩ => ⟨S239, .i32⟩
  | .hbm, ⟨19, _⟩ => ⟨S239, .i32⟩
  | .hbm, ⟨20, _⟩ => ⟨S239, .f32⟩
  | .hbm, ⟨21, _⟩ => ⟨S239, .f32⟩
  | .hbm, ⟨22, _⟩ => ⟨S239, .i1⟩
  | .hbm, ⟨23, _⟩ => ⟨S239, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .f32⟩
  | .hbm, ⟨29, _⟩ => ⟨S_, .i1⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .f32⟩
  | .hbm, ⟨52, _⟩ => ⟨S_, .bf16⟩
  | .hbm, ⟨53, _⟩ => ⟨S_, .f32⟩
  | .hbm, ⟨54, _⟩ => ⟨S_, .f32⟩
  | .hbm, ⟨55, _⟩ => ⟨S1, .f32⟩
  | .hbm, ⟨56, _⟩ => ⟨S1, .f32⟩
  | .hbm, ⟨57, _⟩ => ⟨S2, .f32⟩
  | .hbm, ⟨58, _⟩ => ⟨S5120x27648, .f32⟩
  | .hbm, ⟨59, _⟩ => ⟨S32768x27648, .fp8e5m2⟩
  | .hbm, ⟨60, _⟩ => ⟨S4x8192x27648, .fp8e5m2⟩
  | .local _ .vmem, ⟨0, _⟩ => ⟨S256x27648, .bf16⟩
  | .local _ .vmem, ⟨1, _⟩ => ⟨S256x27648, .bf16⟩
  | .local _ .vmem, ⟨2, _⟩ => ⟨S16x27648, .bf16⟩
  | .local _ .vmem, ⟨3, _⟩ => ⟨S1024x5120, .fp8e4m3⟩
  | .local _ .vmem, ⟨4, _⟩ => ⟨S1024x5120, .fp8e4m3⟩
  | .local _ .vmem, ⟨5, _⟩ => ⟨S1024x1024, .bf16⟩
  | .local _ .vmem, ⟨6, _⟩ => ⟨S1024x1024, .bf16⟩
  | .local _ .vmem, ⟨7, _⟩ => ⟨S160x1024, .f32⟩
  | .local _ .vmem, ⟨8, _⟩ => ⟨S160x1024, .f32⟩
  | .local _ .vmem, ⟨9, _⟩ => ⟨S5120x1024, .f32⟩
  | .local _ .vmem, ⟨10, _⟩ => ⟨S5120x1024, .f32⟩
  | .local _ .vmem, ⟨11, _⟩ => ⟨S1024x1024, .fp8e5m2⟩
  | .local _ .vmem, ⟨12, _⟩ => ⟨S1024x1024, .fp8e5m2⟩
  | .local _ .smem, ⟨0, _⟩ => ⟨S1x1, .f32⟩
  | .local _ .smem, ⟨1, _⟩ => ⟨S2, .f32⟩
  | _, _ => ⟨S4x8192x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_c_6 : Ref sig .tc := ⟨.hbm, 33, rfl⟩
abbrev main_call0_v0 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_c_8 : Ref sig .tc := ⟨.hbm, 38, rfl⟩
abbrev main_call1_v0 : Ref sig .tc := ⟨.hbm, 39, rfl⟩
abbrev main_v23 : Ref sig .tc := ⟨.hbm, 40, rfl⟩
abbrev main_c_9 : Ref sig .tc := ⟨.hbm, 41, rfl⟩
abbrev main_v24 : Ref sig .tc := ⟨.hbm, 42, rfl⟩
abbrev main_c_10 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_11 : Ref sig .tc := ⟨.hbm, 47, rfl⟩
abbrev main_v28 : Ref sig .tc := ⟨.hbm, 48, rfl⟩
abbrev main_c_12 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc0_stg1_0 : Ref sig .tc := ⟨.smem, 0, rfl⟩
abbrev cc1_stg0_0 : Ref sig .tc := ⟨.smem, 1, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![128], ![false]⟩

def k0_cond3 (i : grid0.Coords) : BitVec 1 :=
  let arg0 : BitVec 32 := BitVec.ofNat 32 (i 0).val
  let c127_i32 : BitVec 32 := 127#32
  let v11 : BitVec 1 := Scalar.cmpi .eq arg0 c127_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x27648 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![27, 32], ![false, false]⟩

def k1_off1 (i : grid1.Coords) : Fin 2 → Nat :=
  let arg1 : BitVec 32 := BitVec.ofNat 32 (i 1).val
  let c160_i32 : BitVec 32 := 160#32
  let v128 : BitVec 32 := Scalar.muli arg1 c160_i32
  let v129 : Index := Scalar.indexCast v128
  let c0_87 : Index := 0#32
  ![v129.toNat, 0]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x5120 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S160x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S5120x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1024 .fp8e5m2 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S4x8192x5120 : Shape := ⟨3, ![4, 8192, 5120]⟩
abbrev S_ : Shape := ⟨0, ![]⟩
abbrev S4x8192x27648 : Shape := ⟨3, ![4, 8192, 27648]⟩
abbrev S5120x27648 : Shape := ⟨2, ![5120, 27648]⟩
abbrev S239 : Shape := ⟨1, ![239]⟩
abbrev S1 : Shape := ⟨1, ![1]⟩
abbrev S32768x5120 : Shape := ⟨2, ![32768, 5120]⟩
abbrev S32768x27648 : Shape := ⟨2, ![32768, 27648]⟩

abbrev nBuf : Space → Nat
  | .hbm => 39
  | .vmem => 5
  | .smem => 2
  | _ => 0

abbrev bufTy : (tb : Table) → Fin (tcTables nBuf tb) → BufTy
  | .hbm, ⟨0, _⟩ => ⟨S4x8192x5120, .fp8e4m3⟩
  | .hbm, ⟨1, _⟩ => ⟨S_, .f32⟩
  | .hbm, ⟨2, _⟩ => ⟨S4x8192x27648, .bf16⟩
  | .hbm, ⟨3, _⟩ => ⟨S5120x27648, .f32⟩
  | .hbm, ⟨4, _⟩ => ⟨S239, .f32⟩
  | .hbm, ⟨5, _⟩ => ⟨S4x8192x27648, .bf16⟩
  | .hbm, ⟨6, _⟩ => ⟨S_, .bf16⟩
  | .hbm, ⟨7, _⟩ => ⟨S_, .bf16⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S239, .f32⟩
  | .hbm, ⟨12, _⟩ => ⟨S239, .i1⟩
  | .hbm, ⟨13, _⟩ => ⟨S_, .f32⟩
  | .hbm, ⟨14, _⟩ => ⟨S_, .f32⟩
  | .hbm, ⟨15, _⟩ => ⟨S239, .f32⟩
  | .hbm, ⟨16, _⟩ => ⟨S239, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .i1⟩
  | .hbm, ⟨23, _⟩ => ⟨S_, .i1⟩
  | .hbm, ⟨24, _⟩ => ⟨S_, .f32⟩
  | .hbm, ⟨25, _⟩ => ⟨S_, .i1⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .bf16⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S5120x27648, .f32⟩
  | .hbm, ⟨38, _⟩ => ⟨S4x8192x27648, .fp8e5m2⟩
  | .local _ .vmem, ⟨0, _⟩ => ⟨S4x8192x5120, .fp8e4m3⟩
  | .local _ .vmem, ⟨1, _⟩ => ⟨S4x8192x27648, .bf16⟩
  | .local _ .vmem, ⟨2, _⟩ => ⟨S5120x27648, .f32⟩
  | .local _ .vmem, ⟨3, _⟩ => ⟨S5120x27648, .f32⟩
  | .local _ .vmem, ⟨4, _⟩ => ⟨S4x8192x27648, .fp8e5m2⟩
  | .local _ .smem, ⟨0, _⟩ => ⟨S1, .f32⟩
  | .local _ .smem, ⟨1, _⟩ => ⟨S1, .f32⟩
  | _, _ => ⟨S4x8192x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_cst_5 : Ref sig .tc := ⟨.hbm, 21, rfl⟩
abbrev main_v9 : Ref sig .tc := ⟨.hbm, 22, rfl⟩
abbrev main_v10 : Ref sig .tc := ⟨.hbm, 23, rfl⟩
abbrev main_cst_6 : Ref sig .tc := ⟨.hbm, 24, rfl⟩
abbrev main_v11 : Ref sig .tc := ⟨.hbm, 25, rfl⟩
abbrev main_v12 : Ref sig .tc := ⟨.hbm, 26, rfl⟩
abbrev main_cst_7 : Ref sig .tc := ⟨.hbm, 27, rfl⟩
abbrev main_call1_v0 : Ref sig .tc := ⟨.hbm, 28, rfl⟩
abbrev main_v13 : Ref sig .tc := ⟨.hbm, 29, rfl⟩
abbrev main_cst_8 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8192x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8192x27648 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x27648 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x27648 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8192x27648 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.QuantRun.lean ====
/- The runs of the body of the quantise-and-multiply call, case by case. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Core `c`'s buffers when the region is entered. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V W c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V W c (Pipeline.arrRef spec1 1))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg1 c) (hA : dat.A 2 = V W c (Pipeline.arrRef spec1 2))
    (hafter : ∀ t, dat.after 2 t = iblk W c 2 t) (t : Fin cfg1.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg1 c) (hA : dat.A 3 = V W c (Pipeline.arrRef spec1 3))
    (hafter : ∀ t, dat.after 3 t = iblk W c 3 t) (t : Fin cfg1.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := (Scalar.cmpi .ne (Scalar.extui (Scalar.cmpi .eq (BitVec.ofNat 32 (i 1).val) 0#32)) 0#32) = 1#1
/-- It holds at the points ≡ 0 (mod 32) — by arithmetic of the point. -/
theorem hcond0_0 : ∀ t : Fin cfg1.N, cond0_0 (grid1.coords t) ↔ t.val % 32 = 0 :=
  (fun t => by
    have ht : t.val < 864 := Nat.lt_of_lt_of_eq t.isLt N_1
    have e0 : (grid1.coords t 0).val = t.val / 32 % 27 := Pipeline.Grid.coords_val t 0 (by decide) rfl
    have e1 : (grid1.coords t 1).val = t.val / 1 % 32 := Pipeline.Grid.coords_val t 1 (by decide) rfl
    simp only [cond0_0, e0, e1]
    word_cmp
   : ∀ t : Fin grid1.N, cond0_0 (grid1.coords t) ↔ t.val % 32 = 0)

/-! ## The kernel body on any staging memrefs: a subtype the run finds -/

/-- One staging buffer of output window 4, through which its contents are stated (`View.read_writes_of_cover`: the
    choice does not matter). -/
abbrev VO0_4 : View sig .tc .vmem S5120x1024 .f32 := (Memref.whole cc1_stg4_0 : Memref sig .tc .vmem S5120x1024 .f32).view
/-- One staging buffer of output window 5, through which its contents are stated (`View.read_writes_of_cover`: the
    choice does not matter). -/
abbrev VO0_5 : View sig .tc .vmem S1024x1024 .fp8e5m2 := (Memref.whole cc1_stg5_0 : Memref sig .tc .vmem S1024x1024 .fp8e5m2).view
/-- Each window's current staging memref at point `t`, spelled as the pipeline passes it (`bodyAt1`), and its wholeness. -/
abbrev ms0_0 (t : Fin cfg1.N) : Memref sig .tc .smem S2 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S1024x5120 .fp8e4m3 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1024x1024 .bf16 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S160x1024 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S5120x1024 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S1024x1024 .fp8e5m2 := win1_5.stage (cfg1.slots t 5)
abbrev hs0_5 (t : Fin cfg1.N) : (ms0_5 t).IsWhole := hstage1_5 ((cfg1.slots t 5).cast nbuf1_5)

-- (the run's proof term is large: the definition's epilogue — `abstractNestedProofs` — walks it past the default budget)
set_option maxHeartbeats 1000000 in
/-- What the body's stores leave in each output's staging memref, as pieces (last first) IN CASE A (`scf.if` 0 taken: points 0, 32, … 832: 27 of 864), WITH the
    proof that on whole staging memrefs — the inputs' at their contents, the other outputs' at
    anything, the body runs to the continuation holding the inputs' as they were,
    each output's buffer with its pieces written: the printed functions are their skeletons
     (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid1.Coords) (arg2 : Memref sig .tc .smem S2 .f32) (harg2 : arg2.IsWhole) (arg3 : Memref sig .tc .vmem S1024x5120 .fp8e4m3) (harg3 : arg3.IsWhole) (arg4 : Memref sig .tc .vmem S1024x1024 .bf16) (harg4 : arg4.IsWhole) (arg5 : Memref sig .tc .vmem S160x1024 .f32) (harg5 : arg5.IsWhole) (arg6 : Memref sig .tc .vmem S5120x1024 .f32) (harg6 : arg6.IsWhole) (arg7 : Memref sig .tc .vmem S1024x1024 .fp8e5m2) (harg7 : arg7.IsWhole) (hc0 : cond0_0 i)
    (x0 : Vec F S2 .f32) (x1 : Vec F S1024x5120 .fp8e4m3) (x2 : Vec F S1024x1024 .bf16) (x3 : Vec F S160x1024 .f32) :
    Σ' (L4 : List (View.Piece (Elt F) S5120x1024 .f32)), { L5 : List (View.Piece (Elt F) S1024x1024 .fp8e5m2) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1_quant_matmul i arg2 harg2 arg3 harg3 arg4 harg4 arg5 harg5 arg6 harg6 arg7 harg7) K } := by
  refine ⟨?_, ?_, fun E K => ?run⟩
  case run =>
    simp only [cc1_quant_matmul_eq_skeleton]; unfold cc1_quant_matmul_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

-- (the run's proof term is large: the definition's epilogue — `abstractNestedProofs` — walks it past the default budget)
set_option maxHeartbeats 1000000 in
/-- What the body's stores leave in each output's staging memref, as pieces (last first) IN CASE B (`scf.if` 0 not taken: points 1, 2, … 863: 837 of 864), WITH the
    proof that on whole staging memrefs — the inputs' at their contents, the outputs it reads before covering (4) at their running contents `xo·`, the other outputs' at
    anything, the body runs to the continuation holding the inputs' as they were,
    each output's buffer with its pieces written: the printed functions are their skeletons
     (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid1.Coords) (arg2 : Memref sig .tc .smem S2 .f32) (harg2 : arg2.IsWhole) (arg3 : Memref sig .tc .vmem S1024x5120 .fp8e4m3) (harg3 : arg3.IsWhole) (arg4 : Memref sig .tc .vmem S1024x1024 .bf16) (harg4 : arg4.IsWhole) (arg5 : Memref sig .tc .vmem S160x1024 .f32) (harg5 : arg5.IsWhole) (arg6 : Memref sig .tc .vmem S5120x1024 .f32) (harg6 : arg6.IsWhole) (arg7 : Memref sig .tc .vmem S1024x1024 .fp8e5m2) (harg7 : arg7.IsWhole) (hc0 : ¬cond0_0 i)
    (x0 : Vec F S2 .f32) (x1 : Vec F S1024x5120 .fp8e4m3) (x2 : Vec F S1024x1024 .bf16) (x3 : Vec F S160x1024 .f32) (xo4 : Vec F S5120x1024 .f32) :
    Σ' (L4 : List (View.Piece (Elt F) S5120x1024 .f32)), { L5 : List (View.Piece (Elt F) S1024x1024 .fp8e5m2) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1_quant_matmul i arg2 harg2 arg3 harg3 arg4 harg4 arg5 harg5 arg6 harg6 arg7 harg7) K } := by
  refine ⟨?_, ?_, fun E K => ?run⟩
  case run =>
    simp only [cc1_quant_matmul_eq_skeleton]; unfold cc1_quant_matmul_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.KernelIdeal.Quant

end
-- ==== Proof.QuantRegion.lean ====
/- What the quantise-and-multiply call's buffers hold after each grid point, and its body obligation. -/
module

public import proofs.«01_k».proof.Proof.QuantRun

@[expose] public section

set_option maxRecDepth 16384

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Case A's pieces for output 4 include stores at SYMBOLIC offsets (a loaded word, the grid coordinates), which no evaluation decides; one explicit piece is a literal store of the WHOLE block (found by walking the list as the run left it, that piece checked by the kernel's evaluation of it alone: Lib/Ring.lean `sl_whole_mem`), so they cover it whatever the others are. -/
theorem cover0_A_4 (c : Dev nD) (i : grid1.Coords) (arg2 : Memref sig .tc .smem S2 .f32) (harg2 : arg2.IsWhole) (arg3 : Memref sig .tc .vmem S1024x5120 .fp8e4m3) (harg3 : arg3.IsWhole) (arg4 : Memref sig .tc .vmem S1024x1024 .bf16) (harg4 : arg4.IsWhole) (arg5 : Memref sig .tc .vmem S160x1024 .f32) (harg5 : arg5.IsWhole) (arg6 : Memref sig .tc .vmem S5120x1024 .f32) (harg6 : arg6.IsWhole) (arg7 : Memref sig .tc .vmem S1024x1024 .fp8e5m2) (harg7 : arg7.IsWhole) (hc0 : cond0_0 i)
    (x0 : Vec F S2 .f32) (x1 : Vec F S1024x5120 .fp8e4m3) (x2 : Vec F S1024x1024 .bf16) (x3 : Vec F S160x1024 .f32) (y : S5120x1024.Idx) :
    ∃ pc ∈ (kernelRun0_A c i arg2 harg2 arg3 harg3 arg4 harg4 arg5 harg5 arg6 harg6 arg7 harg7 hc0 x0 x1 x2 x3).1, y ∈ pc.1.set :=
  View.cover_of_wholeMem (kernelRun0_A c i arg2 harg2 arg3 harg3 arg4 harg4 arg5 harg5 arg6 harg6 arg7 harg7 hc0 x0 x1 x2 x3).1 (by sl_whole_mem) y

/-- What case A leaves in output 4's staging buffer: its pieces read back over junk. -/
def out0_A_4 (c : Dev nD) (i : grid1.Coords) (arg2 : Memref sig .tc .smem S2 .f32) (harg2 : arg2.IsWhole) (arg3 : Memref sig .tc .vmem S1024x5120 .fp8e4m3) (harg3 : arg3.IsWhole) (arg4 : Memref sig .tc .vmem S1024x1024 .bf16) (harg4 : arg4.IsWhole) (arg5 : Memref sig .tc .vmem S160x1024 .f32) (harg5 : arg5.IsWhole) (arg6 : Memref sig .tc .vmem S5120x1024 .f32) (harg6 : arg6.IsWhole) (arg7 : Memref sig .tc .vmem S1024x1024 .fp8e5m2) (harg7 : arg7.IsWhole) (hc0 : cond0_0 i)
    (x0 : Vec F S2 .f32) (x1 : Vec F S1024x5120 .fp8e4m3) (x2 : Vec F S1024x1024 .bf16) (x3 : Vec F S160x1024 .f32) : Vec F S5120x1024 .f32 :=
  VO0_4.read (Elt F) (VO0_4.writes (Elt F) VO0_4.junk (kernelRun0_A c i arg2 harg2 arg3 harg3 arg4 harg4 arg5 harg5 arg6 harg6 arg7 harg7 hc0 x0 x1 x2 x3).1)

/-- Case A's pieces for output 5 tile its block (1 store of `S1024x1024`, checked by the kernel's evaluation: Lib/Ring.lean `Piece.tiledL`, linear in the pieces, through a loop's `@[irreducible]` trip theorem too), so they cover it. -/
theorem cover0_A_5 (c : Dev nD) (i : grid1.Coords) (arg2 : Memref sig .tc .smem S2 .f32) (harg2 : arg2.IsWhole) (arg3 : Memref sig .tc .vmem S1024x5120 .fp8e4m3) (harg3 : arg3.IsWhole) (arg4 : Memref sig .tc .vmem S1024x1024 .bf16) (harg4 : arg4.IsWhole) (arg5 : Memref sig .tc .vmem S160x1024 .f32) (harg5 : arg5.IsWhole) (arg6 : Memref sig .tc .vmem S5120x1024 .f32) (harg6 : arg6.IsWhole) (arg7 : Memref sig .tc .vmem S1024x1024 .fp8e5m2) (harg7 : arg7.IsWhole) (hc0 : cond0_0 i)
    (x0 : Vec F S2 .f32) (x1 : Vec F S1024x5120 .fp8e4m3) (x2 : Vec F S1024x1024 .bf16) (x3 : Vec F S160x1024 .f32) (y : S1024x1024.Idx) :
    ∃ pc ∈ (kernelRun0_A c i arg2 harg2 arg3 harg3 arg4 harg4 arg5 harg5 arg6 harg6 arg7 harg7 hc0 x0 x1 x2 x3).2.1, y ∈ pc.1.set :=
  View.cover_of_tiledL (kernelRun0_A c i arg2 harg2 arg3 harg3 arg4 harg4 arg5 harg5 arg6 harg6 arg7 harg7 hc0 x0 x1 x2 x3).2.1 S1024x1024.size (by sl_kernel_rfl) y

/-- What case A leaves in output 5's staging buffer: its pieces read back over junk. -/
def out0_A_5 (c : Dev nD) (i : grid1.Coords) (arg2 : Memref sig .tc .smem S2 .f32) (harg2 : arg2.IsWhole) (arg3 : Memref sig .tc .vmem S1024x5120 .fp8e4m3) (harg3 : arg3.IsWhole) (arg4 : Memref sig .tc .vmem S1024x1024 .bf16) (harg4 : arg4.IsWhole) (arg5 : Memref sig .tc .vmem S160x1024 .f32) (harg5 : arg5.IsWhole) (arg6 : Memref sig .tc .vmem S5120x1024 .f32) (harg6 : arg6.IsWhole) (arg7 : Memref sig .tc .vmem S1024x1024 .fp8e5m2) (harg7 : arg7.IsWhole) (hc0 : cond0_0 i)
    (x0 : Vec F S2 .f32) (x1 : Vec F S1024x5120 .fp8e4m3) (x2 : Vec F S1024x1024 .bf16) (x3 : Vec F S160x1024 .f32) : Vec F S1024x1024 .fp8e5m2 :=
  VO0_5.read (Elt F) (VO0_5.writes (Elt F) VO0_5.junk (kernelRun0_A c i arg2 harg2 arg3 harg3 arg4 harg4 arg5 harg5 arg6 harg6 arg7 harg7 hc0 x0 x1 x2 x3).2.1)

/-- Case B's pieces for output 4: the ten row chunks tile the block, so the whole list covers it. -/
theorem cover0_B_4 (c : Dev nD) (i : grid1.Coords) (arg2 : Memref sig .tc .smem S2 .f32) (harg2 : arg2.IsWhole) (arg3 : Memref sig .tc .vmem S1024x5120 .fp8e4m3) (harg3 : arg3.IsWhole) (arg4 : Memref sig .tc .vmem S1024x1024 .bf16) (harg4 : arg4.IsWhole) (arg5 : Memref sig .tc .vmem S160x1024 .f32) (harg5 : arg5.IsWhole) (arg6 : Memref sig .tc .vmem S5120x1024 .f32) (harg6 : arg6.IsWhole) (arg7 : Memref sig .tc .vmem S1024x1024 .fp8e5m2) (harg7 : arg7.IsWhole) (hc0 : ¬cond0_0 i)
    (x0 : Vec F S2 .f32) (x1 : Vec F S1024x5120 .fp8e4m3) (x2 : Vec F S1024x1024 .bf16) (x3 : Vec F S160x1024 .f32) (xo4 : Vec F S5120x1024 .f32) (y : S5120x1024.Idx) :
    ∃ pc ∈ (kernelRun0_B c i arg2 harg2 arg3 harg3 arg4 harg4 arg5 harg5 arg6 harg6 arg7 harg7 hc0 x0 x1 x2 x3 xo4).1, y ∈ pc.1.set := by
  obtain ⟨pc, hpc, hy⟩ := View.cover_of_tiledL (kernelRun0_B.sl.H4_10 c arg2 harg2 arg3 harg3 arg4 harg4 arg6 harg6 arg7 x0 x1 x2 xo4) S512x1024.size (by sl_kernel_rfl) y
  exact ⟨pc, List.mem_cons_of_mem _ hpc, hy⟩

/-- What case B leaves in output 4's staging buffer: its stores read back (they cover the block; what the point before left enters through the values stored). -/
def out0_B_4 (c : Dev nD) (i : grid1.Coords) (arg2 : Memref sig .tc .smem S2 .f32) (harg2 : arg2.IsWhole) (arg3 : Memref sig .tc .vmem S1024x5120 .fp8e4m3) (harg3 : arg3.IsWhole) (arg4 : Memref sig .tc .vmem S1024x1024 .bf16) (harg4 : arg4.IsWhole) (arg5 : Memref sig .tc .vmem S160x1024 .f32) (harg5 : arg5.IsWhole) (arg6 : Memref sig .tc .vmem S5120x1024 .f32) (harg6 : arg6.IsWhole) (arg7 : Memref sig .tc .vmem S1024x1024 .fp8e5m2) (harg7 : arg7.IsWhole) (hc0 : ¬cond0_0 i)
    (x0 : Vec F S2 .f32) (x1 : Vec F S1024x5120 .fp8e4m3) (x2 : Vec F S1024x1024 .bf16) (x3 : Vec F S160x1024 .f32) (xo4 : Vec F S5120x1024 .f32) : Vec F S5120x1024 .f32 :=
  VO0_4.read (Elt F) (VO0_4.writes (Elt F) VO0_4.junk (kernelRun0_B c i arg2 harg2 arg3 harg3 arg4 harg4 arg5 harg5 arg6 harg6 arg7 harg7 hc0 x0 x1 x2 x3 xo4).1)

/-- Case B's pieces for output 5 tile its block (1 store of `S1024x1024`, checked by the kernel's evaluation: Lib/Ring.lean `Piece.tiledL`, linear in the pieces, through a loop's `@[irreducible]` trip theorem too), so they cover it. -/
theorem cover0_B_5 (c : Dev nD) (i : grid1.Coords) (arg2 : Memref sig .tc .smem S2 .f32) (harg2 : arg2.IsWhole) (arg3 : Memref sig .tc .vmem S1024x5120 .fp8e4m3) (harg3 : arg3.IsWhole) (arg4 : Memref sig .tc .vmem S1024x1024 .bf16) (harg4 : arg4.IsWhole) (arg5 : Memref sig .tc .vmem S160x1024 .f32) (harg5 : arg5.IsWhole) (arg6 : Memref sig .tc .vmem S5120x1024 .f32) (harg6 : arg6.IsWhole) (arg7 : Memref sig .tc .vmem S1024x1024 .fp8e5m2) (harg7 : arg7.IsWhole) (hc0 : ¬cond0_0 i)
    (x0 : Vec F S2 .f32) (x1 : Vec F S1024x5120 .fp8e4m3) (x2 : Vec F S1024x1024 .bf16) (x3 : Vec F S160x1024 .f32) (xo4 : Vec F S5120x1024 .f32) (y : S1024x1024.Idx) :
    ∃ pc ∈ (kernelRun0_B c i arg2 harg2 arg3 harg3 arg4 harg4 arg5 harg5 arg6 harg6 arg7 harg7 hc0 x0 x1 x2 x3 xo4).2.1, y ∈ pc.1.set :=
  View.cover_of_tiledL (kernelRun0_B c i arg2 harg2 arg3 harg3 arg4 harg4 arg5 harg5 arg6 harg6 arg7 harg7 hc0 x0 x1 x2 x3 xo4).2.1 S1024x1024.size (by sl_kernel_rfl) y

/-- What case B leaves in output 5's staging buffer: its pieces read back over junk. -/
def out0_B_5 (c : Dev nD) (i : grid1.Coords) (arg2 : Memref sig .tc .smem S2 .f32) (harg2 : arg2.IsWhole) (arg3 : Memref sig .tc .vmem S1024x5120 .fp8e4m3) (harg3 : arg3.IsWhole) (arg4 : Memref sig .tc .vmem S1024x1024 .bf16) (harg4 : arg4.IsWhole) (arg5 : Memref sig .tc .vmem S160x1024 .f32) (harg5 : arg5.IsWhole) (arg6 : Memref sig .tc .vmem S5120x1024 .f32) (harg6 : arg6.IsWhole) (arg7 : Memref sig .tc .vmem S1024x1024 .fp8e5m2) (harg7 : arg7.IsWhole) (hc0 : ¬cond0_0 i)
    (x0 : Vec F S2 .f32) (x1 : Vec F S1024x5120 .fp8e4m3) (x2 : Vec F S1024x1024 .bf16) (x3 : Vec F S160x1024 .f32) (xo4 : Vec F S5120x1024 .f32) : Vec F S1024x1024 .fp8e5m2 :=
  VO0_5.read (Elt F) (VO0_5.writes (Elt F) VO0_5.junk (kernelRun0_B c i arg2 harg2 arg3 harg3 arg4 harg4 arg5 harg5 arg6 harg6 arg7 harg7 hc0 x0 x1 x2 x3 xo4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg1.N → Vec F S5120x1024 .f32 × Vec F S1024x1024 .fp8e5m2
  | 0, hn => (out0_A_4 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk W c 0 ⟨0, hn⟩) (iblk W c 1 ⟨0, hn⟩) (iblk W c 2 ⟨0, hn⟩) (iblk W c 3 ⟨0, hn⟩), out0_A_5 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk W c 0 ⟨0, hn⟩) (iblk W c 1 ⟨0, hn⟩) (iblk W c 2 ⟨0, hn⟩) (iblk W c 3 ⟨0, hn⟩))
  | n + 1, hn =>
    if h0 : (n + 1) % 32 = 0 then
      (out0_A_4 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk W c 0 ⟨n + 1, hn⟩) (iblk W c 1 ⟨n + 1, hn⟩) (iblk W c 2 ⟨n + 1, hn⟩) (iblk W c 3 ⟨n + 1, hn⟩), out0_A_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk W c 0 ⟨n + 1, hn⟩) (iblk W c 1 ⟨n + 1, hn⟩) (iblk W c 2 ⟨n + 1, hn⟩) (iblk W c 3 ⟨n + 1, hn⟩))
    else
      (out0_B_4 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk W c 0 ⟨n + 1, hn⟩) (iblk W c 1 ⟨n + 1, hn⟩) (iblk W c 2 ⟨n + 1, hn⟩) (iblk W c 3 ⟨n + 1, hn⟩) (outsAt0 c n (Nat.lt_of_succ_lt hn)).1, out0_B_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk W c 0 ⟨n + 1, hn⟩) (iblk W c 1 ⟨n + 1, hn⟩) (iblk W c 2 ⟨n + 1, hn⟩) (iblk W c 3 ⟨n + 1, hn⟩) (outsAt0 c n (Nat.lt_of_succ_lt hn)).1)

/-- `outsAt0` at a point of case A: that case's contents. -/
theorem outsAt0_A (c : Dev nD) (t : Fin cfg1.N) (h0 : t.val % 32 = 0) :
    outsAt0 W c t.val t.isLt = (out0_A_4 c (grid1.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk W c 0 t) (iblk W c 1 t) (iblk W c 2 t) (iblk W c 3 t), out0_A_5 c (grid1.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk W c 0 t) (iblk W c 1 t) (iblk W c 2 t) (iblk W c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg1.N) (h0 : ¬t.val % 32 = 0) :
    outsAt0 W c t.val t.isLt = (out0_B_4 c (grid1.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk W c 0 t) (iblk W c 1 t) (iblk W c 2 t) (iblk W c 3 t) (outsAt0 W c (t.val - 1) (Nat.lt_of_le_of_lt (Nat.sub_le _ _) t.isLt)).1, out0_B_5 c (grid1.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk W c 0 t) (iblk W c 1 t) (iblk W c 2 t) (iblk W c 3 t) (outsAt0 W c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg1 c where
  A w := V W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt0 W c t.val t.isLt).1
    | ⟨5, _⟩ => (outsAt0 W c t.val t.isLt).2
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat W c).A w = V W c (Pipeline.arrRef spec1 w) := by
  dsimp only [dat]

/-- What the body leaves, window by window (the proof data's `match` reduced by `dsimp`). -/
theorem after0_0 (c : Dev nD) (t : Fin cfg1.N) : (dat W c).after 0 t = iblk W c 0 t := by dsimp only [dat]
theorem after0_1 (c : Dev nD) (t : Fin cfg1.N) : (dat W c).after 1 t = iblk W c 1 t := by dsimp only [dat]
theorem after0_2 (c : Dev nD) (t : Fin cfg1.N) : (dat W c).after 2 t = iblk W c 2 t := by dsimp only [dat]
theorem after0_3 (c : Dev nD) (t : Fin cfg1.N) : (dat W c).after 3 t = iblk W c 3 t := by dsimp only [dat]
theorem after0_4 (c : Dev nD) (t : Fin cfg1.N) : (dat W c).after 4 t = (outsAt0 W c t.val t.isLt).1 := by dsimp only [dat]
theorem after0_5 (c : Dev nD) (t : Fin cfg1.N) : (dat W c).after 5 t = (outsAt0 W c t.val t.isLt).2 := by dsimp only [dat]

/-- Each input's current staging buffer holds its block at every point, fetched there or not (`beforeK_W_of`). -/
theorem before0_0 (c : Dev nD) (t : Fin cfg1.N) (d) : (dat W c).before 0 t d = iblk W c 0 t :=
  before0_0_of W (dat W c) (A_eq W c 0) (after0_0 W c) t d
theorem before0_1 (c : Dev nD) (t : Fin cfg1.N) (d) : (dat W c).before 1 t d = iblk W c 1 t :=
  before0_1_of W (dat W c) (A_eq W c 1) (after0_1 W c) t d
theorem before0_2 (c : Dev nD) (t : Fin cfg1.N) (d) : (dat W c).before 2 t d = iblk W c 2 t :=
  before0_2_of W (dat W c) (A_eq W c 2) (after0_2 W c) t d
theorem before0_3 (c : Dev nD) (t : Fin cfg1.N) (d) : (dat W c).before 3 t d = iblk W c 3 t :=
  before0_3_of W (dat W c) (A_eq W c 3) (after0_3 W c) t d
/-- At a point of case B output 4's current staging buffer holds what the body left at the point before: the point is
    not the first, the buffer was not written back between (`flush1_4`), the window is live and uncut (Lib/Pipeline/Frame.lean
    `Dat.before_out_kept`). -/
theorem before0_4_B (c : Dev nD) (t : Fin cfg1.N) (h0 : ¬t.val % 32 = 0) (d) :
    (dat W c).before 4 t d = (outsAt0 W c (t.val - 1) (Nat.lt_of_le_of_lt (Nat.sub_le _ _) t.isLt)).1 := by
  have hN : t.val < 864 := lt_of_lt_of_eq t.isLt (show cfg1.N = 864 from N_1)
  rw [Dat.before_out_kept _ 4 rfl t (by omega) (Bool.eq_false_iff.mpr fun h => by have := (flush1_4 _).mp h; dsimp only at this; omega)
    (fun _ => rfl) (fun _ _ => rfl)]
  dsimp only [dat]

/-! ## The body obligation, at a generic point -/

/-- What the body is called with at point `t` (Lib/Pipeline.lean `BodyObligation`'s precondition, the windows one by one), -/
def bodyPre (c : Dev nD) (t : Fin cfg1.N) : sProp 𝕄 :=
  iprop((dat W c).Φ t.castSucc ∗ (dat W c).owesAt () t.castSucc
    ∗ (∃ d, owns (c : Thread nD τ) (ms0_0 t) fullShare ((dat W c).before 0 t d))
    ∗ (∃ d, owns (c : Thread nD τ) (ms0_1 t) fullShare ((dat W c).before 1 t d))
    ∗ (∃ d, owns (c : Thread nD τ) (ms0_2 t) fullShare ((dat W c).before 2 t d))
    ∗ (∃ d, owns (c : Thread nD τ) (ms0_3 t) fullShare ((dat W c).before 3 t d))
    ∗ (∃ d, owns (c : Thread nD τ) (ms0_4 t) fullShare ((dat W c).before 4 t d))
    ∗ (∃ d, owns (c : Thread nD τ) (ms0_5 t) fullShare ((dat W c).before 5 t d)))

/-- and what it returns. -/
def bodyPost (c : Dev nD) (t : Fin cfg1.N) : sProp 𝕄 :=
  iprop((dat W c).Φ t.succ ∗ (dat W c).owesAt () t.succ
    ∗ owns (c : Thread nD τ) (ms0_0 t) fullShare ((dat W c).after 0 t)
    ∗ owns (c : Thread nD τ) (ms0_1 t) fullShare ((dat W c).after 1 t)
    ∗ owns (c : Thread nD τ) (ms0_2 t) fullShare ((dat W c).after 2 t)
    ∗ owns (c : Thread nD τ) (ms0_3 t) fullShare ((dat W c).after 3 t)
    ∗ owns (c : Thread nD τ) (ms0_4 t) fullShare ((dat W c).after 4 t)
    ∗ owns (c : Thread nD τ) (ms0_5 t) fullShare ((dat W c).after 5 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before0_0, before0_1, before0_2, before0_3]
  rw [show (dat W c).Φ t.succ = (dat W c).Φ t.castSucc from rfl,
    show (dat W c).owesAt () t.succ = (dat W c).owesAt () t.castSucc from rfl,
    after0_0, after0_1, after0_2, after0_3, after0_4, after0_5]
  have hN : t.val < 864 := lt_of_lt_of_eq t.isLt (show cfg1.N = 864 from N_1)
  by_cases h0 : t.val % 32 = 0
  · rw [outsAt0_A W c t h0]
    unfold out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid1.coords t) _ _ _ _ _ _ _ _ _ _ _ _ ((hcond0_0 t).mpr h0) (iblk W c 0 t) (iblk W c 1 t) (iblk W c 2 t) (iblk W c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _)
  · rw [outsAt0_B W c t h0]
    simp only [before0_4_B W c t h0]
    unfold out0_B_4 out0_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid1.coords t) _ _ _ _ _ _ _ _ _ _ _ _ (fun h => h0 ((hcond0_0 t).mp h)) (iblk W c 0 t) (iblk W c 1 t) (iblk W c 2 t) (iblk W c 3 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

end Cert.KernelIdeal.Quant

end
-- ==== Proof.AmaxRun.lean ====
/- The runs of the body of the maximum call, case by case. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Amax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Core `c`'s buffers when the region is entered. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V W c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [cond0_0, e0]
    word_cmp
   : ∀ t : Fin grid0.N, cond0_0 (grid0.coords t) ↔ t.val % 128 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 128 = 127 :=
  (fun t => by
    have ht : t.val < 128 := Nat.lt_of_lt_of_eq t.isLt N_0
    have e0 : (grid0.coords t 0).val = t.val / 1 % 128 := Pipeline.Grid.coords_val t 0 (by decide) rfl
    simp only [cond0_2, k0_cond3, e0]
    word_cmp
   : ∀ t : Fin grid0.N, cond0_2 (grid0.coords t) ↔ t.val % 128 = 127)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .smem S1x1 .f32 := (Memref.whole cc0_stg1_0 : Memref sig .tc .smem S1x1 .f32).view
/-- Each window's current staging memref at point `t`, spelled as the pipeline passes it (`bodyAt0`), and its wholeness. -/
abbrev ms0_0 (t : Fin cfg0.N) : Memref sig .tc .vmem S256x27648 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S16x27648 .bf16 := Memref.whole cc0_scratch0
/-- The scratch `arg3` the kernel carries between points, as a view: what it holds is stated through it. -/
abbrev VS0_0 : View sig .tc .vmem S16x27648 .bf16 := scM0_0.view

/-- The scoped buffers this region leaves alone: the other region's staging buffers and this one's result cell. -/
def Rest (c : Dev nD) : sProp 𝕄 := iprop((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg0_0), ((c : Thread nD τ).loc cc1_stg0_0) ↦{fullShare} f))

/-- The region's invariant: the carried scratch at some contents, the buffers left alone, the generator register. -/
theorem PhiA0_eq (c : Dev nD) :
    (Pipeline.ΦA spec0 c : sProp 𝕄)
      = iprop(iprop((∃ d, owns (c : Thread nD τ) scM0_0 fullShare d) ∗ Rest (F := F) c) ∗ (∃ r, prngReg c r)) := by
  unfold Pipeline.ΦA Rest; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x27648 .bf16) (harg1 : arg1.IsWhole) (arg2 : Memref sig .tc .smem S1x1 .f32) (harg2 : arg2.IsWhole) (arg3 : Memref sig .tc .vmem S16x27648 .bf16) (harg3 : arg3.IsWhole) (hc0 : cond0_0 i) (hc1 : ¬cond0_1 i) (hc2 : ¬cond0_2 i)
    (x0 : Vec F S256x27648 .bf16) :
    Σ' (L1 : List (View.Piece (Elt F) S1x1 .f32)), { LS0 : List (View.Piece (Elt F) S16x27648 .bf16) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_dy_abs_max i arg1 harg1 arg2 harg2 arg3 harg3) K } := by
  refine ⟨[], ?_, fun xi1 E K => ?run⟩
  case run =>
    simp only [cc0_dy_abs_max_eq_skeleton]; unfold cc0_dy_abs_max_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 126: 126 of 128), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x27648 .bf16) (harg1 : arg1.IsWhole) (arg2 : Memref sig .tc .smem S1x1 .f32) (harg2 : arg2.IsWhole) (arg3 : Memref sig .tc .vmem S16x27648 .bf16) (harg3 : arg3.IsWhole) (hc0 : ¬cond0_0 i) (hc1 : cond0_1 i) (hc2 : ¬cond0_2 i)
    (x0 : Vec F S256x27648 .bf16) (xs0 : Vec F S16x27648 .bf16) :
    Σ' (L1 : List (View.Piece (Elt F) S1x1 .f32)), { LS0 : List (View.Piece (Elt F) S16x27648 .bf16) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_dy_abs_max i arg1 harg1 arg2 harg2 arg3 harg3) K } := by
  refine ⟨[], ?_, fun xi1 E K => ?run⟩
  case run =>
    simp only [cc0_dy_abs_max_eq_skeleton]; unfold cc0_dy_abs_max_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 127), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x27648 .bf16) (harg1 : arg1.IsWhole) (arg2 : Memref sig .tc .smem S1x1 .f32) (harg2 : arg2.IsWhole) (arg3 : Memref sig .tc .vmem S16x27648 .bf16) (harg3 : arg3.IsWhole) (hc0 : ¬cond0_0 i) (hc1 : cond0_1 i) (hc2 : cond0_2 i)
    (x0 : Vec F S256x27648 .bf16) (xs0 : Vec F S16x27648 .bf16) :
    Σ' (L1 : List (View.Piece (Elt F) S1x1 .f32)), { LS0 : List (View.Piece (Elt F) S16x27648 .bf16) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0_dy_abs_max i arg1 harg1 arg2 harg2 arg3 harg3) K } := by
  refine ⟨?_, ?_, fun E K => ?run⟩
  case run =>
    simp only [cc0_dy_abs_max_eq_skeleton]; unfold cc0_dy_abs_max_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    iexists _; iexact HS0

end Cert.KernelIdeal.Amax

end
-- ==== Proof.AmaxRegion.lean ====
/- What the maximum call's buffers hold after each grid point, and its body obligation. -/
module

public import proofs.«01_k».proof.Proof.AmaxRun

@[expose] public section

set_option maxRecDepth 16384

noncomputable section

namespace Cert.KernelIdeal.Amax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S256x27648 .bf16) (harg1 : arg1.IsWhole) (arg2 : Memref sig .tc .smem S1x1 .f32) (harg2 : arg2.IsWhole) (arg3 : Memref sig .tc .vmem S16x27648 .bf16) (harg3 : arg3.IsWhole) (hc0 : cond0_0 i) (hc1 : ¬cond0_1 i) (hc2 : ¬cond0_2 i)
    (x0 : Vec F S256x27648 .bf16) : Vec F S1x1 .f32 :=
  VO0_1.read (Elt F) (VO0_1.writes (Elt F) VO0_1.junk (kernelRun0_A c i arg1 harg1 arg2 harg2 arg3 harg3 hc0 hc1 hc2 x0).1)

/-- Case A's pieces for scratch `arg3`, which the kernel carries between points, cover it: 1 piece of `S16x27648` tiling it (Lib/Ring.lean `Piece.tiledL`). -/
theorem scover0_A_0 (c : Dev nD) (i : grid0.Coords) (arg1 : Memref sig .tc .vmem S256x27648 .bf16) (harg1 : arg1.IsWhole) (arg2 : Memref sig .tc .smem S1x1 .f32) (harg2 : arg2.IsWhole) (arg3 : Memref sig .tc .vmem S16x27648 .bf16) (harg3 : arg3.IsWhole) (hc0 : cond0_0 i) (hc1 : ¬cond0_1 i) (hc2 : ¬cond0_2 i)
    (x0 : Vec F S256x27648 .bf16) (y : S16x27648.Idx) :
    ∃ pc ∈ (kernelRun0_A c i arg1 harg1 arg2 harg2 arg3 harg3 hc0 hc1 hc2 x0).2.1, y ∈ pc.1.set :=
  View.cover_of_tiledL (kernelRun0_A c i arg1 harg1 arg2 harg2 arg3 harg3 hc0 hc1 hc2 x0).2.1 S16x27648.size (by sl_kernel_rfl) y

/-- What case A leaves in scratch `arg3`: its pieces read back over junk. -/
def sout0_A_0 (c : Dev nD) (i : grid0.Coords) (arg1 : Memref sig .tc .vmem S256x27648 .bf16) (harg1 : arg1.IsWhole) (arg2 : Memref sig .tc .smem S1x1 .f32) (harg2 : arg2.IsWhole) (arg3 : Memref sig .tc .vmem S16x27648 .bf16) (harg3 : arg3.IsWhole) (hc0 : cond0_0 i) (hc1 : ¬cond0_1 i) (hc2 : ¬cond0_2 i)
    (x0 : Vec F S256x27648 .bf16) : Vec F S16x27648 .bf16 :=
  VS0_0.read (Elt F) (VS0_0.writes (Elt F) VS0_0.junk (kernelRun0_A c i arg1 harg1 arg2 harg2 arg3 harg3 hc0 hc1 hc2 x0).2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S256x27648 .bf16) (harg1 : arg1.IsWhole) (arg2 : Memref sig .tc .smem S1x1 .f32) (harg2 : arg2.IsWhole) (arg3 : Memref sig .tc .vmem S16x27648 .bf16) (harg3 : arg3.IsWhole) (hc0 : ¬cond0_0 i) (hc1 : cond0_1 i) (hc2 : ¬cond0_2 i)
    (x0 : Vec F S256x27648 .bf16) (xs0 : Vec F S16x27648 .bf16) : Vec F S1x1 .f32 :=
  VO0_1.read (Elt F) (VO0_1.writes (Elt F) VO0_1.junk (kernelRun0_B c i arg1 harg1 arg2 harg2 arg3 harg3 hc0 hc1 hc2 x0 xs0).1)

/-- Case B's pieces for scratch `arg3`, which the kernel carries between points, cover it: 1 piece of `S16x27648` tiling it (Lib/Ring.lean `Piece.tiledL`). -/
theorem scover0_B_0 (c : Dev nD) (i : grid0.Coords) (arg1 : Memref sig .tc .vmem S256x27648 .bf16) (harg1 : arg1.IsWhole) (arg2 : Memref sig .tc .smem S1x1 .f32) (harg2 : arg2.IsWhole) (arg3 : Memref sig .tc .vmem S16x27648 .bf16) (harg3 : arg3.IsWhole) (hc0 : ¬cond0_0 i) (hc1 : cond0_1 i) (hc2 : ¬cond0_2 i)
    (x0 : Vec F S256x27648 .bf16) (xs0 : Vec F S16x27648 .bf16) (y : S16x27648.Idx) :
    ∃ pc ∈ (kernelRun0_B c i arg1 harg1 arg2 harg2 arg3 harg3 hc0 hc1 hc2 x0 xs0).2.1, y ∈ pc.1.set :=
  View.cover_of_tiledL (kernelRun0_B c i arg1 harg1 arg2 harg2 arg3 harg3 hc0 hc1 hc2 x0 xs0).2.1 S16x27648.size (by sl_kernel_rfl) y

/-- What case B leaves in scratch `arg3`: its pieces read back over junk. -/
def sout0_B_0 (c : Dev nD) (i : grid0.Coords) (arg1 : Memref sig .tc .vmem S256x27648 .bf16) (harg1 : arg1.IsWhole) (arg2 : Memref sig .tc .smem S1x1 .f32) (harg2 : arg2.IsWhole) (arg3 : Memref sig .tc .vmem S16x27648 .bf16) (harg3 : arg3.IsWhole) (hc0 : ¬cond0_0 i) (hc1 : cond0_1 i) (hc2 : ¬cond0_2 i)
    (x0 : Vec F S256x27648 .bf16) (xs0 : Vec F S16x27648 .bf16) : Vec F S16x27648 .bf16 :=
  VS0_0.read (Elt F) (VS0_0.writes (Elt F) VS0_0.junk (kernelRun0_B c i arg1 harg1 arg2 harg2 arg3 harg3 hc0 hc1 hc2 x0 xs0).2.1)

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S256x27648 .bf16) (harg1 : arg1.IsWhole) (arg2 : Memref sig .tc .smem S1x1 .f32) (harg2 : arg2.IsWhole) (arg3 : Memref sig .tc .vmem S16x27648 .bf16) (harg3 : arg3.IsWhole) (hc0 : ¬cond0_0 i) (hc1 : cond0_1 i) (hc2 : cond0_2 i)
    (x0 : Vec F S256x27648 .bf16) (xs0 : Vec F S16x27648 .bf16) (y : S1x1.Idx) :
    ∃ pc ∈ (kernelRun0_C c i arg1 harg1 arg2 harg2 arg3 harg3 hc0 hc1 hc2 x0 xs0).1, y ∈ pc.1.set :=
  View.cover_of_tiledL (kernelRun0_C c i arg1 harg1 arg2 harg2 arg3 harg3 hc0 hc1 hc2 x0 xs0).1 S1x1.size (by sl_kernel_rfl) y

/-- What case C leaves in output 1's staging buffer: its pieces read back over junk. -/
def out0_C_1 (c : Dev nD) (i : grid0.Coords) (arg1 : Memref sig .tc .vmem S256x27648 .bf16) (harg1 : arg1.IsWhole) (arg2 : Memref sig .tc .smem S1x1 .f32) (harg2 : arg2.IsWhole) (arg3 : Memref sig .tc .vmem S16x27648 .bf16) (harg3 : arg3.IsWhole) (hc0 : ¬cond0_0 i) (hc1 : cond0_1 i) (hc2 : cond0_2 i)
    (x0 : Vec F S256x27648 .bf16) (xs0 : Vec F S16x27648 .bf16) : Vec F S1x1 .f32 :=
  VO0_1.read (Elt F) (VO0_1.writes (Elt F) VO0_1.junk (kernelRun0_C c i arg1 harg1 arg2 harg2 arg3 harg3 hc0 hc1 hc2 x0 xs0).1)

/-- Case C's pieces for scratch `arg3`, which the kernel carries between points, cover it: 1 piece of `S16x27648` tiling it (Lib/Ring.lean `Piece.tiledL`). -/
theorem scover0_C_0 (c : Dev nD) (i : grid0.Coords) (arg1 : Memref sig .tc .vmem S256x27648 .bf16) (harg1 : arg1.IsWhole) (arg2 : Memref sig .tc .smem S1x1 .f32) (harg2 : arg2.IsWhole) (arg3 : Memref sig .tc .vmem S16x27648 .bf16) (harg3 : arg3.IsWhole) (hc0 : ¬cond0_0 i) (hc1 : cond0_1 i) (hc2 : cond0_2 i)
    (x0 : Vec F S256x27648 .bf16) (xs0 : Vec F S16x27648 .bf16) (y : S16x27648.Idx) :
    ∃ pc ∈ (kernelRun0_C c i arg1 harg1 arg2 harg2 arg3 harg3 hc0 hc1 hc2 x0 xs0).2.1, y ∈ pc.1.set :=
  View.cover_of_tiledL (kernelRun0_C c i arg1 harg1 arg2 harg2 arg3 harg3 hc0 hc1 hc2 x0 xs0).2.1 S16x27648.size (by sl_kernel_rfl) y

/-- What case C leaves in scratch `arg3`: its pieces read back over junk. -/
def sout0_C_0 (c : Dev nD) (i : grid0.Coords) (arg1 : Memref sig .tc .vmem S256x27648 .bf16) (harg1 : arg1.IsWhole) (arg2 : Memref sig .tc .smem S1x1 .f32) (harg2 : arg2.IsWhole) (arg3 : Memref sig .tc .vmem S16x27648 .bf16) (harg3 : arg3.IsWhole) (hc0 : ¬cond0_0 i) (hc1 : cond0_1 i) (hc2 : cond0_2 i)
    (x0 : Vec F S256x27648 .bf16) (xs0 : Vec F S16x27648 .bf16) : Vec F S16x27648 .bf16 :=
  VS0_0.read (Elt F) (VS0_0.writes (Elt F) VS0_0.junk (kernelRun0_C c i arg1 harg1 arg2 harg2 arg3 harg3 hc0 hc1 hc2 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S16x27648 .bf16
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk W c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk W c 0 ⟨0, hn⟩))
  | n + 1, hn =>
    if h0 : (n + 1) % 128 = 0 then
      if h1 : 1 ≤ (n + 1) then
        False.elim (by have hN : n + 1 < 128 := lt_of_lt_of_eq hn (show cfg0.N = 128 from N_0); omega)
      else
        if h2 : (n + 1) % 128 = 127 then
          False.elim (by have hN : n + 1 < 128 := lt_of_lt_of_eq hn (show cfg0.N = 128 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk W c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk W c 0 ⟨n + 1, hn⟩))
    else
      if h1 : 1 ≤ (n + 1) then
        if h2 : (n + 1) % 128 = 127 then
          (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk W c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk W c 0 ⟨n + 1, hn⟩) (outsAt0 c n (Nat.lt_of_succ_lt hn)).2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk W c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk W c 0 ⟨n + 1, hn⟩) (outsAt0 c n (Nat.lt_of_succ_lt hn)).2)
      else
        False.elim (by have hN : n + 1 < 128 := lt_of_lt_of_eq hn (show cfg0.N = 128 from N_0); omega)

/-- `outsAt0` at a point of case A: that case's contents. -/
theorem outsAt0_A (c : Dev nD) (t : Fin cfg0.N) (h0 : t.val % 128 = 0) (h1 : ¬1 ≤ t.val) (h2 : ¬t.val % 128 = 127) :
    outsAt0 W c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (fun h => h2 ((hcond0_2 t).mp h)) (iblk W c 0 t), sout0_A_0 c (grid0.coords t) (ms0_0 t) (hs0_0 t) (ms0_1 t) (hs0_1 t) scM0_0 (Memref.isWhole_whole _) ((hcond0_0 t).mpr h0) (fun h => h1 ((hcond0_1 t).mp h)) (fun h => h2 ((hcond0_2 t).mp h)) (iblk W c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 128 = 0) (h1 : 1 ≤ t.val) (h2 : ¬t.val % 128 = 127) :
    outsAt0 W c t.val t.isLt = (out0_B_1 c (grid0.coords t) (ms0_0 t) (hs0_0 t) (ms0_1 t) (hs0_1 t) scM0_0 (Memref.isWhole_whole _) (fun h => h0 ((hcond0_0 t).mp h)) ((hcond0_1 t).mpr h1) (fun h => h2 ((hcond0_2 t).mp h)) (iblk W c 0 t) (outsAt0 W c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) ((hcond0_1 t).mpr h1) (fun h => h2 ((hcond0_2 t).mp h)) (iblk W c 0 t) (outsAt0 W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 128 = 0) (h1 : 1 ≤ t.val) (h2 : t.val % 128 = 127) :
    outsAt0 W c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) ((hcond0_2 t).mpr h2) (iblk W c 0 t) (outsAt0 W c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) ((hcond0_2 t).mpr h2) (iblk W c 0 t) (outsAt0 W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 W c n hn).2) ∗ Rest (F := F) c) ∗ (∃ r, prngReg c r))

theorem PhiS_zero (c : Dev nD) (n : ℕ) (h : n ≤ cfg0.N) (hz : n = 0) : PhiS W c n h = Pipeline.ΦA spec0 c := by
  subst hz; rfl

/-- After point `n` (before point `n + 1`): the carried scratch at that point's contents. -/
theorem PhiS_succ (c : Dev nD) (n : ℕ) (hn : n < cfg0.N) :
    PhiS W c (n + 1) hn = iprop(iprop(owns (c : Thread nD τ) scM0_0 fullShare ((outsAt0 W c n hn).2) ∗ Rest (F := F) c) ∗ (∃ r, prngReg c r)) := rfl

/-- Before a point that is not the first: the carried scratch at what the point before left. -/
theorem PhiS_pos (c : Dev nD) (n : ℕ) (h : n ≤ cfg0.N) (hz : n ≠ 0) :
    PhiS W c n h = iprop(iprop(owns (c : Thread nD τ) scM0_0 fullShare ((outsAt0 W c (n - 1) (by omega)).2) ∗ Rest (F := F) c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V W c (Pipeline.arrRef spec0 w)
  after w t := match w with
    | ⟨0, _⟩ => iblk W c 0 t
    | ⟨1, _⟩ => (outsAt0 W c t.val t.isLt).1
  Φ t := PhiS W c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat W c).A w = V W c (Pipeline.arrRef spec0 w) := by
  dsimp only [dat]

/-- The invariant at a point's start (the proof data at `t.castSucc`), restated at `t.val`. -/
theorem PhiS_castSucc (c : Dev nD) (t : Fin cfg0.N) :
    (dat W c).Φ t.castSucc = PhiS W c t.val (Nat.le_of_lt t.isLt) := by
  dsimp only [dat]; exact Pipeline.Dat.Φ_castSucc (PhiS W c) t

/-- What the body leaves, window by window (the proof data's `match` reduced by `dsimp`). -/
theorem after0_0 (c : Dev nD) (t : Fin cfg0.N) : (dat W c).after 0 t = iblk W c 0 t := by dsimp only [dat]
theorem after0_1 (c : Dev nD) (t : Fin cfg0.N) : (dat W c).after 1 t = (outsAt0 W c t.val t.isLt).1 := by dsimp only [dat]

/-- Each input's current staging buffer holds its block at every point, fetched there or not (`beforeK_W_of`). -/
theorem before0_0 (c : Dev nD) (t : Fin cfg0.N) (d) : (dat W c).before 0 t d = iblk W c 0 t :=
  before0_0_of W (dat W c) (A_eq W c 0) (after0_0 W c) t d

/-! ## The body obligation, at a generic point -/

/-- What the body is called with at point `t` (Lib/Pipeline.lean `BodyObligation`'s precondition, the windows one by one), -/
def bodyPre (c : Dev nD) (t : Fin cfg0.N) : sProp 𝕄 :=
  iprop((dat W c).Φ t.castSucc ∗ (dat W c).owesAt () t.castSucc
    ∗ (∃ d, owns (c : Thread nD τ) (ms0_0 t) fullShare ((dat W c).before 0 t d))
    ∗ (∃ d, owns (c : Thread nD τ) (ms0_1 t) fullShare ((dat W c).before 1 t d)))

/-- and what it returns. -/
def bodyPost (c : Dev nD) (t : Fin cfg0.N) : sProp 𝕄 :=
  iprop((dat W c).Φ t.succ ∗ (dat W c).owesAt () t.succ
    ∗ (dat W c).leavesExact 0 t
    ∗ (dat W c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0]
  rw [show (dat W c).owesAt () t.succ = (dat W c).owesAt () t.castSucc from rfl]
  rw [show (dat W c).Φ t.succ = PhiS W c (t.val + 1) t.isLt from rfl, PhiS_succ]
  have hN : t.val < 128 := lt_of_lt_of_eq t.isLt (show cfg0.N = 128 from N_0)
  by_cases h0 : t.val % 128 = 0
  · by_cases h1 : 1 ≤ t.val
    · exfalso; omega
    · by_cases h2 : t.val % 128 = 127
      · exfalso; omega
      · rw [show (dat W c).leavesExact 0 t = owns (c : Thread nD τ) (ms0_0 t) fullShare ((dat W c).after 0 t) from by
      unfold Dat.leavesExact; rw [liveAt0_0 t], after0_0]
        rw [Dat.leavesExact_idle (dat W c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        by_cases hz : t.val = 0
        · rw [PhiS_castSucc W c t, PhiS_zero W c _ _ hz, PhiA0_eq]
          rw [outsAt0_A W c t h0 h1 h2]
          unfold sout0_A_0; (try dsimp only)
          iintro ⟨⟨⟨HS0, HR⟩, Hg⟩, Ho, ⟨%d0, H0⟩, ⟨%d1, H1⟩⟩
          iapply ((kernelRun0_A c (grid0.coords t) _ _ _ _ _ _ ((hcond0_0 t).mpr h0) (fun h => h1 ((hcond0_1 t).mp h)) (fun h => h2 ((hcond0_2 t).mp h)) (iblk W c 0 t)).2.2 _ Set.univ _)
          isplitl [H0]; · iexact H0
          isplitl [H1]; · iexact H1
          isplitl [HS0]; · iexact HS0
          iintro ⟨H0, H1, ⟨%es0, HS0⟩⟩
          isplitl [HS0 HR Hg]
          · isplitl [HS0 HR]
            · isplitl [HS0]; swap; · iexact HR
              unfold owns; iexists _; isplitr
              swap; · iexact HS0
              ipureintro; exact View.read_writes_of_cover _ _ _ _ _ (scover0_A_0 c _ _ _ _ _ _ _ _ _ _ _)
            iexact Hg
          isplitl [Ho]; · iexact Ho
          isplitl [H0]; · iexact H0
          iexists _; iexact H1
        · exfalso; have hN : t.val < 128 := lt_of_lt_of_eq t.isLt (show cfg0.N = 128 from N_0); omega
  · by_cases h1 : 1 ≤ t.val
    · by_cases h2 : t.val % 128 = 127
      · rw [show (dat W c).leavesExact 0 t = owns (c : Thread nD τ) (ms0_0 t) fullShare ((dat W c).after 0 t) from by
      unfold Dat.leavesExact; rw [liveAt0_0 t], after0_0]
        rw [show (dat W c).leavesExact 1 t = owns (c : Thread nD τ) (ms0_1 t) fullShare ((dat W c).after 1 t) from by
      unfold Dat.leavesExact; rw [liveAt0_1_C t (fun h => h0 ((hcond0_0 t).mp h)) ((hcond0_1 t).mpr h1) ((hcond0_2 t).mpr h2)], after0_1]
        by_cases hz : t.val = 0
        · exfalso; have hN : t.val < 128 := lt_of_lt_of_eq t.isLt (show cfg0.N = 128 from N_0); omega
        · rw [PhiS_castSucc W c t, PhiS_pos W c _ _ hz]
          rw [outsAt0_C W c t h0 h1 h2]
          unfold out0_C_1 sout0_C_0; (try dsimp only)
          iintro ⟨⟨⟨HS0, HR⟩, Hg⟩, Ho, ⟨%d0, H0⟩, ⟨%d1, H1⟩⟩
          iapply ((kernelRun0_C c (grid0.coords t) _ _ _ _ _ _ (fun h => h0 ((hcond0_0 t).mp h)) ((hcond0_1 t).mpr h1) ((hcond0_2 t).mpr h2) (iblk W c 0 t) _).2.2 Set.univ _)
          isplitl [H0]; · iexact H0
          isplitl [H1]; · iexists _; iexact H1
          isplitl [HS0]; · iexact HS0
          iintro ⟨H0, ⟨%e1, H1⟩, ⟨%es0, HS0⟩⟩
          isplitl [HS0 HR Hg]
          · isplitl [HS0 HR]
            · isplitl [HS0]; swap; · iexact HR
              unfold owns; iexists _; isplitr
              swap; · iexact HS0
              ipureintro; exact View.read_writes_of_cover _ _ _ _ _ (scover0_C_0 c _ _ _ _ _ _ _ _ _ _ _ _)
            iexact Hg
          isplitl [Ho]; · iexact Ho
          isplitl [H0]; · iexact H0
          unfold owns; iexists _; isplitr
          swap; · iexact H1
          ipureintro; exact View.read_writes_of_cover _ _ _ _ _ (cover0_C_1 c _ _ _ _ _ _ _ _ _ _ _ _)
      · rw [show (dat W c).leavesExact 0 t = owns (c : Thread nD τ) (ms0_0 t) fullShare ((dat W c).after 0 t) from by
      unfold Dat.leavesExact; rw [liveAt0_0 t], after0_0]
        rw [Dat.leavesExact_idle (dat W c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        by_cases hz : t.val = 0
        · exfalso; have hN : t.val < 128 := lt_of_lt_of_eq t.isLt (show cfg0.N = 128 from N_0); omega
        · rw [PhiS_castSucc W c t, PhiS_pos W c _ _ hz]
          rw [outsAt0_B W c t h0 h1 h2]
          unfold sout0_B_0; (try dsimp only)
          iintro ⟨⟨⟨HS0, HR⟩, Hg⟩, Ho, ⟨%d0, H0⟩, ⟨%d1, H1⟩⟩
          iapply ((kernelRun0_B c (grid0.coords t) _ _ _ _ _ _ (fun h => h0 ((hcond0_0 t).mp h)) ((hcond0_1 t).mpr h1) (fun h => h2 ((hcond0_2 t).mp h)) (iblk W c 0 t) _).2.2 _ Set.univ _)
          isplitl [H0]; · iexact H0
          isplitl [H1]; · iexact H1
          isplitl [HS0]; · iexact HS0
          iintro ⟨H0, H1, ⟨%es0, HS0⟩⟩
          isplitl [HS0 HR Hg]
          · isplitl [HS0 HR]
            · isplitl [HS0]; swap; · iexact HR
              unfold owns; iexists _; isplitr
              swap; · iexact HS0
              ipureintro; exact View.read_writes_of_cover _ _ _ _ _ (scover0_B_0 c _ _ _ _ _ _ _ _ _ _ _ _)
            iexact Hg
          isplitl [Ho]; · iexact Ho
          isplitl [H0]; · iexact H0
          iexists _; iexact H1
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

/-- What the launch hands the region (`ΦA`) is the invariant before the first point. -/
theorem hin (c : Dev nD) : Pipeline.ΦA spec0 c ⊢ (dat W c).Φ 0 := by
  rw [show (dat W c).Φ 0 = PhiS W c 0 (Nat.zero_le _) from rfl, PhiS_zero W c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat W c).Φ t ⊢ Pipeline.ΦA spec0 c := by
  rw [show (dat W c).Φ t = PhiS W c t.val (Nat.le_of_lt_succ t.isLt) from rfl, PhiS_pos W c _ _ ht, PhiA0_eq]
  iintro ⟨⟨HS0, HR⟩, Hg⟩
  isplitl [HS0 HR]
  · isplitl [HS0]; swap; · iexact HR
    iexists _; iexact HS0
  iexact Hg

/-- The same after the last point. -/
theorem hout (c : Dev nD) : (dat W c).Φ (Fin.last cfg0.N) ⊢ Pipeline.ΦA spec0 c :=
  Phi_out W c _ (by rw [Fin.val_last]; have : cfg0.N = 128 := N_0; omega)

end Cert.KernelIdeal.Amax

end
-- ==== Proof.AmaxSeg.lean ====
/- The maximum call as one segment of the program's run. -/
module

public import proofs.«01_k».proof.Proof.AmaxRegion
public import proofs.«01_k».proof.Proof.Gen.KernelIdeal.Regions
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- Every semaphore of a TensorCore may be waited on at the one index. -/
def L : GSem nD τ sig → Finset Unit := fun g => if g.1.2 = .tc then {()} else ∅
/-- All levels are zero. -/
abbrev lv : GSem nD τ sig → Unit → ℕ := fun _ _ => 0

theorem hL (g : GSem nD τ sig) (h : g.1.2 ≠ .tc) : L g = ∅ := by unfold L; rw [if_neg h]

/-- Nothing is owed, so no wait is cut off. -/
theorem cut (p : Fin 2) : Pipeline.LevelCut (pcfgs (F := F)) adm () L lv p (fun _ : Dev nD => 0) (fun _ => 0) where
  hι c w s := by unfold L; rw [if_pos rfl]; exact Finset.mem_singleton_self _
  hιb _ _ _ := le_refl _
  hD c g i h := absurd h (lt_irrefl 0)

/-- What a core carries beside its buffers: it owes nothing, and its generator register. -/
abbrev rest (c : Dev nD) : sProp 𝕄 :=
  iprop((∃ Wd, owes (c : Thread nD τ) (0 : CellTallies nD τ sig Unit) Wd) ∗ (∃ r, prngReg c r) ∗ emp)

variable (m : (ℓ : Loc nD τ sig) → Buf (Elt F) ℓ) (outs : Outs (F := F))
variable (pdats : (p : Fin 2) → (c : Dev nD) → Dat τ (Elt F) Unit ℕ (UR sig nD τ) ℕ (cfgs p) c)

section

variable (h0 : pdats 0 = Amax.dat (V1 m))

include h0 in
theorem body0 (c : Dev nD) : Pipeline.BodyObligationLoose (pdats 0 c) (defs₀ (F := F)) Variants.none () Set.univ := by
  rw [h0]; exact (Amax.body_obligation (V1 m) c).loose

include h0 in
theorem owed0 (c : Dev nD) (t : Fin (cfg0.N + 1)) : (pdats 0 c).owed t = 0 := by
  rw [h0]; dsimp only [Amax.dat]

include h0 in
theorem recorded0 (c : Dev nD) : (pdats 0 c).recorded 0 = Set.univ := by
  rw [h0]; dsimp only [Amax.dat]

include h0 in
theorem share0 (c : Dev nD) (w : Fin cfg0.W) : (pdats 0 c).share w = fullShare := by
  rw [h0]; exact (Amax.dat (V1 m) c).share_full (fun _ => rfl) w

include h0 in
theorem in0 (c : Dev nD) : iprop(Pipeline.scopedRest (Ix := Unit) (Name := ℕ) (U := UR sig nD τ) (Lvl := ℕ) spec0 c ∗ ∃ r, prngReg c r) ⊢ (pdats 0 c).Φ 0 := by
  rw [h0]; exact Amax.hin (V1 m) c

include h0 in
theorem out0 (c : Dev nD) : (pdats 0 c).Φ (Fin.last cfg0.N) ⊢ iprop(Pipeline.scopedRest (Ix := Unit) (Name := ℕ) (U := UR sig nD τ) (Lvl := ℕ) spec0 c ∗ ∃ r, prngReg c r) := by
  rw [h0]; exact Amax.hout (V1 m) c

include h0 in
theorem arr0 (c : Dev nD) (w : Fin cfg0.W) : (pdats 0 c).arrAt w 0 = V1 m c (Proc.devRef .tc (Pipeline.arrRef spec0 w)) := by
  rw [h0]; exact Amax.A_eq (V1 m) c w

include h0 in
def reg0 : RegionSeg (pcfgs (F := F)) adm pdats () defs₀ Variants.none L lv 0 :=
(RegionSeg.ofHeldIn (pcfgs (F := F)) adm pdats () defs₀ Variants.none L lv 0 (fun _ => 0) (Pipeline.ucRefs τ sig)
    (fun c => iprop(∃ r, prngReg c r)) (fun c => iprop(∃ r, prngReg c r)) launch0.toP rfl
    (body0 m pdats h0) (owed0 m pdats h0) (recorded0 m pdats h0) (share0 m pdats h0) (in0 m pdats h0) (out0 m pdats h0)
    (fun _ => 0) (cut 0) (fun _ => iprop(emp)) (V1 m) (arr0 m pdats h0))
theorem arrs0 : Pipeline.arrRefs (τ := τ) spec0 ⊆ Pipeline.ucRefs τ sig :=
  Pipeline.arrRefs_sub_ucRefs spec0 (by decide)

theorem pre0 (c : Dev nD) : iprop(StableHlo.held (c : Thread nD τ) (Pipeline.ucRefs τ sig) (V1 m c) ∗ rest c) ⊢ (reg0 m pdats h0).pre c := by
  unfold reg0
  apply RegionSeg.ofHeldIn_pre
  exact arrs0

/-- The contents the maximum call leaves are the next host stretch's entry contents. -/
theorem after0 (ho : ∀ c, outs 2 main_v2 c = (Amax.dat (V1 m) c).arrAt 1 cfg0.N) (c : Dev nD) :
    Pipeline.afterRegion (Amax.dat (V1 m) c) (V1 m c) = V2 m outs c := by
  funext b
  by_cases hb : b = Proc.devRef .tc main_v2
  · subst hb
    rw [V2, Function.update_self, ho c]
    exact Pipeline.afterRegion_arr (Amax.dat (V1 m) c) (V1 m c) launch0.win.arr_inj 1
  · rw [V2, Function.update_of_ne hb]
    by_cases hb0 : b = Proc.devRef .tc (Pipeline.arrRef spec0 0)
    · subst hb0
      exact Pipeline.afterRegion_keeps (Amax.dat (V1 m) c) (V1 m c) launch0.win.arr_inj (Amax.A_eq (V1 m) c) _ (by decide)
    · unfold Pipeline.afterRegion
      refine dif_neg ?_
      rintro ⟨w, e⟩
      match w, e with
      | ⟨0, _⟩, e => exact hb0 e
      | ⟨1, _⟩, e => exact hb e

theorem post0 (ho : ∀ c, outs 2 main_v2 c = (Amax.dat (V1 m) c).arrAt 1 cfg0.N) (c : Dev nD) :
    (reg0 m pdats h0).post c ⊢ iprop(StableHlo.held (c : Thread nD τ) (Pipeline.ucRefs τ sig) (V2 m outs c) ∗ rest c) := by
  rw [← after0 m outs ho c, ← congrFun h0 c]
  unfold reg0
  apply RegionSeg.ofHeldIn_post
  exact arrs0

end

end Cert.KernelIdeal.Run

end
-- ==== Proof.QuantSeg.lean ====
/- The quantise-and-multiply call as one segment of the program's run. -/
module

public import proofs.«01_k».proof.Proof.QuantRegion
public import proofs.«01_k».proof.Proof.AmaxSeg
public import proofs.«01_k».proof.Proof.Gen.KernelIdeal.Regions
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))
variable (pdats : (p : Fin 2) → (c : Dev nD) → Dat τ (Elt F) Unit ℕ (UR sig nD τ) ℕ (cfgs p) c)

section

variable (h1 : pdats 1 = Quant.dat (V7 m outs))

include h1 in
theorem body1 (c : Dev nD) : Pipeline.BodyObligationLoose (pdats 1 c) (defs₀ (F := F)) Variants.none () Set.univ := by
  rw [h1]; exact (Quant.body_obligation (V7 m outs) c).loose

include h1 in
theorem owed1 (c : Dev nD) (t : Fin (cfg1.N + 1)) : (pdats 1 c).owed t = 0 := by
  rw [h1]; dsimp only [Quant.dat]

include h1 in
theorem recorded1 (c : Dev nD) : (pdats 1 c).recorded 0 = Set.univ := by
  rw [h1]; dsimp only [Quant.dat]

include h1 in
theorem share1 (c : Dev nD) (w : Fin cfg1.W) : (pdats 1 c).share w = fullShare := by
  rw [h1]; exact (Quant.dat (V7 m outs) c).share_full (fun _ => rfl) w

include h1 in
theorem in1 (c : Dev nD) : iprop(Pipeline.scopedRest (Ix := Unit) (Name := ℕ) (U := UR sig nD τ) (Lvl := ℕ) spec1 c ∗ ∃ r, prngReg c r) ⊢ (pdats 1 c).Φ 0 := by
  rw [h1]; exact .rfl

include h1 in
theorem out1 (c : Dev nD) : (pdats 1 c).Φ (Fin.last cfg1.N) ⊢ iprop(Pipeline.scopedRest (Ix := Unit) (Name := ℕ) (U := UR sig nD τ) (Lvl := ℕ) spec1 c ∗ ∃ r, prngReg c r) := by
  rw [h1]; exact .rfl

include h1 in
theorem arr1 (c : Dev nD) (w : Fin cfg1.W) : (pdats 1 c).arrAt w 0 = V7 m outs c (Proc.devRef .tc (Pipeline.arrRef spec1 w)) := by
  rw [h1]; exact Quant.A_eq (V7 m outs) c w

include h1 in
def reg1 : RegionSeg (pcfgs (F := F)) adm pdats () defs₀ Variants.none L lv 1 :=
(RegionSeg.ofHeldIn (pcfgs (F := F)) adm pdats () defs₀ Variants.none L lv 1 (fun _ => 0) (Pipeline.ucRefs τ sig)
    (fun c => iprop(∃ r, prngReg c r)) (fun c => iprop(∃ r, prngReg c r)) launch1.toP rfl
    (body1 m outs pdats h1) (owed1 m outs pdats h1) (recorded1 m outs pdats h1) (share1 m outs pdats h1) (in1 m outs pdats h1) (out1 m outs pdats h1)
    (fun _ => 0) (cut 1) (fun _ => iprop(emp)) (V7 m outs) (arr1 m outs pdats h1))
theorem arrs1 : Pipeline.arrRefs (τ := τ) spec1 ⊆ Pipeline.ucRefs τ sig :=
  Pipeline.arrRefs_sub_ucRefs spec1 (by decide)

theorem pre1 (c : Dev nD) : iprop(StableHlo.held (c : Thread nD τ) (Pipeline.ucRefs τ sig) (V7 m outs c) ∗ rest c) ⊢ (reg1 m outs pdats h1).pre c := by
  unfold reg1
  apply RegionSeg.ofHeldIn_pre
  exact arrs1

/-- The contents the call leaves are the last host stretch's entry contents. -/
theorem after1 (ho4 : ∀ c, outs 8 main_v37_0 c = (Quant.dat (V7 m outs) c).arrAt 4 cfg1.N)
    (ho5 : ∀ c, outs 8 main_v37_1 c = (Quant.dat (V7 m outs) c).arrAt 5 cfg1.N) (c : Dev nD) :
    Pipeline.afterRegion (Quant.dat (V7 m outs) c) (V7 m outs c) = V8 m outs c := by
  funext b
  by_cases hb5 : b = Proc.devRef .tc main_v37_1
  · subst hb5
    rw [V8, Function.update_self, ho5 c]
    exact Pipeline.afterRegion_arr (Quant.dat (V7 m outs) c) (V7 m outs c) launch1.win.arr_inj 5
  rw [V8, Function.update_of_ne hb5]
  by_cases hb4 : b = Proc.devRef .tc main_v37_0
  · subst hb4
    rw [Function.update_self, ho4 c]
    exact Pipeline.afterRegion_arr (Quant.dat (V7 m outs) c) (V7 m outs c) launch1.win.arr_inj 4
  rw [Function.update_of_ne hb4]
  by_cases h : ∃ w, b = Proc.devRef .tc (Pipeline.arrRef spec1 w)
  · obtain ⟨w, rfl⟩ := h
    have hw : (cfg1.win w).isOut = false := by
      match w with
      | ⟨0, _⟩ => rfl
      | ⟨1, _⟩ => rfl
      | ⟨2, _⟩ => rfl
      | ⟨3, _⟩ => rfl
      | ⟨4, _⟩ => exact absurd rfl hb4
      | ⟨5, _⟩ => exact absurd rfl hb5
    exact ((Pipeline.afterRegion_arr (Quant.dat (V7 m outs) c) (V7 m outs c) launch1.win.arr_inj w).trans
      ((Quant.dat (V7 m outs) c).arrAt_in w hw _)).trans (Quant.A_eq (V7 m outs) c w)
  · unfold Pipeline.afterRegion
    exact dif_neg h

theorem post1 (ho4 : ∀ c, outs 8 main_v37_0 c = (Quant.dat (V7 m outs) c).arrAt 4 cfg1.N)
    (ho5 : ∀ c, outs 8 main_v37_1 c = (Quant.dat (V7 m outs) c).arrAt 5 cfg1.N) (c : Dev nD) :
    (reg1 m outs pdats h1).post c ⊢ iprop(StableHlo.held (c : Thread nD τ) (Pipeline.ucRefs τ sig) (V8 m outs c) ∗ rest c) := by
  rw [← after1 m outs ho4 ho5 c, ← congrFun h1 c]
  unfold reg1
  apply RegionSeg.ofHeldIn_post
  exact arrs1

end

end Cert.KernelIdeal.Run

end
-- ==== Proof.Run.lean ====
/- The whole program's run: every buffer it ends with, and every counter at zero. -/
module

public import proofs.«01_k».proof.Proof.QuantSeg
public import proofs.«01_k».proof.Proof.Gen.KernelIdeal.Regions
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the maximum call leaves in its result; every other buffer as launched. -/
def outsA : Outs (F := F) := fun _ =>
  Function.update (fun r c => m ((c : Thread nD τ).loc r)) main_v2 (fun c => (Amax.dat (V1 m) c).arrAt 1 cfg0.N)

/-- The contents the quantise-and-multiply call is entered at. -/
def W7 (c : Dev nD) : Valuation τ sig (Elt F) := V7 m (outsA m) c

/-- What the two calls leave in their results. -/
def outs : Outs (F := F) := fun J =>
  Function.update (Function.update (outsA m J) main_v37_0 (fun c => (Quant.dat (W7 m) c).arrAt 4 cfg1.N))
    main_v37_1 (fun c => (Quant.dat (W7 m) c).arrAt 5 cfg1.N)

theorem outsA_v2 (J : ℕ) : outsA m J main_v2 = fun c => (Amax.dat (V1 m) c).arrAt 1 cfg0.N := by
  unfold outsA; rw [Function.update_self]

theorem outs_v2 (J : ℕ) : outs m J main_v2 = fun c => (Amax.dat (V1 m) c).arrAt 1 cfg0.N := by
  unfold outs
  rw [Function.update_of_ne (by decide), Function.update_of_ne (by decide), outsA_v2]

theorem outs_v37_1 (J : ℕ) : outs m J main_v37_1 = fun c => (Quant.dat (W7 m) c).arrAt 5 cfg1.N := by
  unfold outs; rw [Function.update_self]

theorem outs_v37_0 (J : ℕ) : outs m J main_v37_0 = fun c => (Quant.dat (W7 m) c).arrAt 4 cfg1.N := by
  unfold outs; rw [Function.update_of_ne (by decide), Function.update_self]

theorem V7_outs : V7 m (outs m) = W7 m := by
  funext c
  have h : V2 m (outs m) c = V2 m (outsA m) c := by rw [V2, V2, outs_v2, outsA_v2]
  unfold W7
  rw [V7, V7, V6, V6, V5, V5, V4, V4, V3, V3, h]

/-- The two calls' proof data. -/
def dats (p : Fin 2) (c : Dev nD) : Dat τ (Elt F) Unit ℕ (UR sig nD τ) ℕ (cfgs p) c :=
  match p with
  | 0 => Amax.dat (V1 m) c
  | 1 => Quant.dat (V7 m (outs m)) c

/-- The maximum call's segment. -/
def R0 : RegionSeg (pcfgs (F := F)) adm (dats m) () defs₀ Variants.none L lv 0 := reg0 m (dats m) rfl
/-- The quantise-and-multiply call's segment. -/
def R1 : RegionSeg (pcfgs (F := F)) adm (dats m) () defs₀ Variants.none L lv 1 := reg1 m (outs m) (dats m) rfl

theorem R0_pre (c : Dev nD) : iprop(StableHlo.held (c : Thread nD τ) (Pipeline.ucRefs τ sig) (V1 m c) ∗ rest c) ⊢ (R0 m).pre c :=
  pre0 m (dats m) rfl c
theorem R0_post (c : Dev nD) : (R0 m).post c ⊢ iprop(StableHlo.held (c : Thread nD τ) (Pipeline.ucRefs τ sig) (V2 m (outs m) c) ∗ rest c) :=
  post0 m (outs m) (dats m) rfl (fun c => by rw [outs_v2]) c
theorem R1_pre (c : Dev nD) : iprop(StableHlo.held (c : Thread nD τ) (Pipeline.ucRefs τ sig) (V7 m (outs m) c) ∗ rest c) ⊢ (R1 m).pre c :=
  pre1 m (outs m) (dats m) rfl c
theorem R1_post (c : Dev nD) : (R1 m).post c ⊢ iprop(StableHlo.held (c : Thread nD τ) (Pipeline.ucRefs τ sig) (V8 m (outs m) c) ∗ rest c) :=
  post1 m (outs m) (dats m) rfl (fun c => by rw [V7_outs, outs_v37_0]) (fun c => by rw [V7_outs, outs_v37_1]) c

/-- What is carried beside the buffers owes nothing. -/
theorem sep_elim_l' (c : Dev nD) : (rest c : sProp 𝕄) ⊢ iprop(∃ W, owes (c : Thread nD τ) (0 : CellTallies nD τ sig Unit) W) := by
  iintro ⟨H, -⟩
  iexact H

/-- The launch's ghost state. -/
theorem start : (ownU (initOf (Pipeline.cells cfgs cellOf_inj) (Pipeline.launchToks cfgs cellOf_inj) : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj) : UR sig nD τ) : sProp 𝕄)
      ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What each core carries beside its buffers at the start. -/
theorem launch : iprop((bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (iprop(emp) : sProp 𝕄))) ∗ levAts L lv)
      ⊢ (|={Set.univ}=> bigSep Finset.univ rest : sProp 𝕄) := by
  refine Pipeline.initEach L lv fun c => ?_
  iintro ⟨⟨-, HO, -, Hp, -⟩, -⟩
  imodintro
  isplitl [HO]; · iexists _; iexact HO
  isplitl [Hp]; · iexists _; iexact Hp
  iempintro

-- the run theorem's implicit arguments are found by unifying its conclusion with this one, which takes unfolding
-- plain definitions in a metavariable's type
set_option backward.isDefEq.respectTransparency.types false in
/-- Every fair run of the program terminates with every unscoped buffer at `V9` and every semaphore counter at zero. -/
theorem run : θ_run defs (onTc (τ := τ) (main (F := F))) ⟨m, fun _ => 0, ρ⟩ (fun r =>
    (∀ c : Dev nD, ∀ b ∈ Pipeline.ucRefs τ sig, r.2.mem (c, b) = V9 m (outs m) c b) ∧ r.2.sem = fun _ => 0) := by
  refine Pipeline.θ_run_regions_kit_dev_sems (pcfgs (F := F)) adm (dats m) () cellOf_inj emb₁ defs₀ Variants.none L lv m ρ main
    (segs m (outs m) Variants.none L lv (fun _ => rest) () (dats m) (R0 m) (R1 m))
    (fun c Q => by
      rewrite [main_chain c, Seg.run_eq_chain,
        show (segs m (outs m) Variants.none L lv (fun _ => rest) () (dats m) (R0 m) (R1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) hL (fun _ => iprop(emp)) (initOf (Pipeline.cells cfgs cellOf_inj) (Pipeline.launchToks cfgs cellOf_inj)) start
    (T₀ := fun c => iprop(StableHlo.held (c : Thread nD τ) (Pipeline.ucRefs τ sig) (V0 m c) ∗ rest c))
    (Tₙ := fun c => StableHlo.held (c : Thread nD τ) (Pipeline.ucRefs τ sig) (V9 m (outs m) c))
    (hch := fun c => ⟨.rfl, R0_pre m c, R0_post m c, .rfl, .rfl, .rfl, .rfl, R1_pre m c, R1_post m c, sep_mono .rfl (sep_elim_l' c)⟩)
    (hinit := ?_) (QY := fun c s => ∀ b ∈ Pipeline.ucRefs τ sig, s.mem (c, b) = V9 m (outs m) c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (iprop(emp) : sProp 𝕄)))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (rest (F := F))]
    isplitl [Hh]; · iexact Hh
    iexact HE
  · unfold StableHlo.held
    iintro ⟨Hh, HSI⟩
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro
      exact h
    · iexact HSI

theorem mem_uc (r : Ref sig .tc) (h : r.isScoped = false) : Proc.devRef .tc r ∈ Pipeline.ucRefs τ sig :=
  Finset.mem_filter.mpr ⟨StableHlo.devRef_mem_tcRefs r, by exact (by simpa using h)⟩

end Cert.KernelIdeal.Run

end
-- ==== Proof.Frames.lean ====
/- The kernel runs, its four arguments end as they began, and every counter ends at zero: from the whole program's run,
   of the program at the extended reals and, the two programs being one text, of the program at the bits. -/
module

public import proofs.«01_k».proof.Defs
public import proofs.«01_k».proof.Proof.Run
public import proofs.«01_k».proof.Proof.Gen.Kernel
public import Idealize.ShloMosaic.Lib.Tactic

@[expose] public section

set_option maxRecDepth 16384

noncomputable section

namespace Cert.KernelIdeal.Frames

open Cert.KernelIdeal Cert.KernelIdeal.Gen
open Idealize.ShloMosaic Idealize.ShloMosaic.TcCoe Idealize.ShloMosaic.Tactic Idealize.SL.Sem

variable {F : FTy → Type} [FloatOps F]

/-- The arguments are as launched when every unscoped buffer is at the valuation the program ends with. -/
theorem kept (m : (ℓ : Loc nD τ sig) → Buf (Elt F) ℓ) (r : PUnit × MemSt nD τ sig (Elt F))
    (h : ∀ c : Dev nD, ∀ b ∈ Pipeline.ucRefs τ sig, r.2.mem (c, b) = V9 m (Run.outs m) c b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c _ (Run.mem_uc main_arg0 rfl)).trans (V9_main_arg0 m _ c), (h c _ (Run.mem_uc main_arg1 rfl)).trans (V9_main_arg1 m _ c),
    (h c _ (Run.mem_uc main_arg2 rfl)).trans (V9_main_arg2 m _ c), (h c _ (Run.mem_uc main_arg3 rfl)).trans (V9_main_arg3 m _ c)⟩

/-- What a frame says of the program at any floats. -/
abbrev Says (F : FTy → Type) [FloatOps F] : Prop :=
  ∀ (m : (ℓ : Loc nD τ sig) → Buf (Elt F) ℓ) (g : Dev nD → PrngReg),
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The frame, at any floats. -/
theorem frame : Says F := fun m g =>
  (θ_run defs _ _).mono (fun r h => ⟨kept m r h.1, h.2⟩) (Run.run m g)

/-- What a frame says of the program as printed, at the bits. -/
abbrev SaysK : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

/-- The printed program and the idealized one are the same text: the two statements are one. -/
theorem same : SaysK = Says Bits := by sl_kernel_rfl

/-- The frame of the printed program. -/
theorem frame_printed : SaysK := same ▸ frame

end Cert.KernelIdeal.Frames

end
-- ==== Proof.KHost.lean ====
/- What the kernel's host operations between its two regions compute: the exponent, the scale, and the two scalars
   the second region reads. -/
module

public import proofs.«01_k».proof.Proof.Gen.KernelIdeal.Regions
public import Idealize.ShloMosaic.Lib.Claim
public import Idealize.ShloMosaic.Lib.Pointwise

@[expose] public section

set_option maxRecDepth 16384

noncomputable section

namespace Cert.KernelIdeal.KHost

open Cert.KernelIdeal Cert.KernelIdeal.Gen
open Idealize.ShloMosaic Idealize.ShloMosaic.TcCoe Idealize.ShloMosaic.Tactic Idealize.SL.Sem

/-- How many of the 239 powers of two are at most the scaled maximum. -/
def kcount (A : FVec Ideal S_ .f32) : IVec S_ 32 :=
  Host.reduce IntOp.addi
    (extui 32 (cmpf .ole
      (bitcastToFloat .f32 (Host.shli
        (addi (addi (broadcastInDim S239 ![] bcast_S_S239 (constantI S_ 32 4294967170#32)) (iotaInDim S239 32 0))
          (broadcastInDim S239 ![] bcast_S_S239 (constantI S_ 32 127#32)))
        (broadcastInDim S239 ![] bcast_S_S239 (constantI S_ 32 23#32))))
      (broadcastInDim S239 ![] bcast_S_S239 (mulf A (constant S_ .f32 0x37924925#32)))) natLt_1_32)
    (constantI S_ 32 0#32) reducesTo_S239_S_d0 h_S_

/-- The exponent of the scale, before the test of a zero maximum. -/
def kexp0 (A : FVec Ideal S_ .f32) : IVec S_ 32 :=
  select (ori (cmpi .eq (kcount A) (constantI S_ 32 0#32))
      (cmpf .oeq (mulf A (constant S_ .f32 0x37924925#32)) (constant S_ .f32 0x7F800000#32)))
    (constantI S_ 32 0#32) (subi (kcount A) (constantI S_ 32 126#32))

/-- The exponent of the scale. -/
def kexp (A : FVec Ideal S_ .f32) : IVec S_ 32 :=
  select (cmpf .oeq A (constant S_ .f32 0x00000000#32)) (constantI S_ 32 0#32) (kexp0 A)

/-- The scale: two to the exponent, put together from its bits. -/
def kscale (A : FVec Ideal S_ .f32) : FVec Ideal S_ .f32 :=
  bitcastToFloat .f32 (Host.shli (addi (kexp A) (constantI S_ 32 127#32)) (constantI S_ 32 23#32))

/-- The reciprocal of the scale: two to minus the exponent, put together from its bits. -/
def kinv (A : FVec Ideal S_ .f32) : FVec Ideal S_ .f32 :=
  extf .f32 (truncf .bf16 (bitcastToFloat .f32 (Host.shli (addi (negi (kexp A)) (constantI S_ 32 127#32)) (constantI S_ 32 23#32)))
    bitsLt_bf16_f32) bitsLt_bf16_f32

variable (m : (ℓ : Loc nD τ sig) → Buf (Elt Ideal) ℓ) (outs : Outs (F := Ideal)) (c : Dev nD)

/-- The maximum the first region leaves, as the rank-zero array the host operations read. -/
abbrev amax : FVec Ideal S_ .f32 := shapeCast S_ (show FVec Ideal S1x1 .f32 from outs 2 main_v2 c) shapeCasts_S1x1_S_

theorem V3_v2 : V2 m outs c main_v2 = outs 2 main_v2 c := by
  simp only [V2, Function.update_self]

section
variable (W : Valuation τ sig (Elt Ideal))

/-- Each stretch of host operations from any contents `W`. -/
theorem s1_v19 : (StableHlo.after hostOps1 W main_v19 : IVec S_ 1) =
    ori (cmpi .eq (kcount (shapeCast S_ (show FVec Ideal S1x1 .f32 from W main_v2) shapeCasts_S1x1_S_)) (constantI S_ 32 0#32))
      (cmpf .oeq (mulf (shapeCast S_ (show FVec Ideal S1x1 .f32 from W main_v2) shapeCasts_S1x1_S_) (constant S_ .f32 0x37924925#32)) (constant S_ .f32 0x7F800000#32)) := by
  after_results; rfl
theorem s1_v20 : (StableHlo.after hostOps1 W main_v20 : IVec S_ 32) =
    subi (kcount (shapeCast S_ (show FVec Ideal S1x1 .f32 from W main_v2) shapeCasts_S1x1_S_)) (constantI S_ 32 126#32) := by
  after_results; rfl
theorem s1_v3 : (StableHlo.after hostOps1 W main_v3 : FVec Ideal S_ .f32) =
    shapeCast S_ (show FVec Ideal S1x1 .f32 from W main_v2) shapeCasts_S1x1_S_ := by
  after_results; rfl
theorem s1_c6 : (StableHlo.after hostOps1 W main_c_6 : IVec S_ 32) = constantI S_ 32 0#32 := by
  after_results
theorem s11_v21 : (StableHlo.after hostOps1_1 W main_v21 : IVec S_ 32) =
    select (show IVec S_ 1 from W main_v19) (show IVec S_ 32 from W main_c_6) (show IVec S_ 32 from W main_v20) := by
  after_results; rfl
theorem s12_v22 : (StableHlo.after hostOps1_2 W main_v22 : IVec S_ 1) =
    cmpf .oeq (show FVec Ideal S_ .f32 from W main_v3) (constant S_ .f32 0x00000000#32) := by
  after_results
theorem s12_c8 : (StableHlo.after hostOps1_2 W main_c_8 : IVec S_ 32) = constantI S_ 32 0#32 := by
  after_results
theorem s13_v23 : (StableHlo.after hostOps1_3 W main_v23 : IVec S_ 32) =
    select (show IVec S_ 1 from W main_v22) (show IVec S_ 32 from W main_c_8) (show IVec S_ 32 from W main_v21) := by
  after_results; rfl
theorem s14_v26 : (StableHlo.after hostOps1_4 W main_v26 : FVec Ideal S_ .f32) =
    bitcastToFloat (F := Ideal) .f32 (Host.shli (addi (show IVec S_ 32 from W main_v23) (constantI S_ 32 127#32)) (constantI S_ 32 23#32)) := by
  after_results
theorem s14_v36 : (StableHlo.after hostOps1_4 W main_v36 : FVec Ideal S2 .f32) =
    concatenate S2 0 [⟨S1, broadcastInDim S1 ![] bcast_S_S1 (extf .f32 (truncf .bf16 (bitcastToFloat .f32 (Host.shli
        (addi (negi (show IVec S_ 32 from W main_v23)) (constantI S_ 32 127#32)) (constantI S_ 32 23#32)))
      bitsLt_bf16_f32) bitsLt_bf16_f32 : FVec Ideal S_ .f32)⟩,
      ⟨S1, broadcastInDim S1 ![] bcast_S_S1 (mulf (show FVec Ideal S_ .f32 from W main_arg1)
        (bitcastToFloat .f32 (Host.shli (addi (show IVec S_ 32 from W main_v23) (constantI S_ 32 127#32)) (constantI S_ 32 23#32))))⟩]
      concatenates_S1_S1_S2_d0 := by
  after_results
theorem s0_v0 : (StableHlo.after hostOps0 W main_v0 : FVec Ideal S32768x5120 .fp8e4m3) =
    shapeCast S32768x5120 (show FVec Ideal S4x8192x5120 .fp8e4m3 from W main_arg0) shapeCasts_S4x8192x5120_S32768x5120 := by
  after_results; rfl
theorem s0_v1 : (StableHlo.after hostOps0 W main_v1 : FVec Ideal S32768x27648 .bf16) =
    shapeCast S32768x27648 (show FVec Ideal S4x8192x27648 .bf16 from W main_arg2) shapeCasts_S4x8192x27648_S32768x27648 := by
  after_results; rfl
theorem s2_v38 : (StableHlo.after hostOps2 W main_v38 : FVec Ideal S4x8192x27648 .fp8e5m2) =
    shapeCast S4x8192x27648 (show FVec Ideal S32768x27648 .fp8e5m2 from W main_v37_1) shapeCasts_S32768x27648_S4x8192x27648 := by
  after_results; rfl
end

theorem V3_v19 : (V3 m outs c main_v19 : IVec S_ 1) =
    ori (cmpi .eq (kcount (amax outs c)) (constantI S_ 32 0#32))
      (cmpf .oeq (mulf (amax outs c) (constant S_ .f32 0x37924925#32)) (constant S_ .f32 0x7F800000#32)) := by
  rw [amax, ← V3_v2 m outs c]
  exact s1_v19 (V2 m outs c)
theorem V3_v20 : (V3 m outs c main_v20 : IVec S_ 32) = subi (kcount (amax outs c)) (constantI S_ 32 126#32) := by
  rw [amax, ← V3_v2 m outs c]
  exact s1_v20 (V2 m outs c)
theorem V3_v3 : (V3 m outs c main_v3 : FVec Ideal S_ .f32) = amax outs c := by
  rw [amax, ← V3_v2 m outs c]
  exact s1_v3 (V2 m outs c)

theorem V4_v21 : (V4 m outs c main_v21 : IVec S_ 32) = kexp0 (amax outs c) := by
  rw [kexp0, ← V3_v19 m, ← V3_v20 m, ← s1_c6 (V2 m outs c)]
  exact s11_v21 (V3 m outs c)

theorem V5_v22 : (V5 m outs c main_v22 : IVec S_ 1) = cmpf .oeq (amax outs c) (constant S_ .f32 0x00000000#32) := by
  rw [← V3_v3 m, ← V4_of m outs c main_v3 (by decide)]
  exact s12_v22 (V4 m outs c)

theorem V6_v23 : (V6 m outs c main_v23 : IVec S_ 32) = kexp (amax outs c) := by
  rw [kexp, ← V5_v22 m, ← s12_c8 (V4 m outs c), ← V4_v21 m, ← V5_of m outs c main_v21 (by decide)]
  exact s13_v23 (V5 m outs c)

/-- The scale the program returns. -/
theorem V7_v26 : (V7 m outs c main_v26 : FVec Ideal S_ .f32) = kscale (amax outs c) := by
  rw [kscale, ← V6_v23 m]
  exact s14_v26 (V6 m outs c)

theorem V6_arg1 : (V6 m outs c main_arg1 : FVec Ideal S_ .f32) = m ((c : Thread nD τ).loc main_arg1) :=
  (V6_of m outs c main_arg1 (by decide)).trans <| (V5_of m outs c main_arg1 (by decide)).trans <|
    (V4_of m outs c main_arg1 (by decide)).trans <| (V3_of m outs c main_arg1 (by decide)).trans <|
    (V2_of m outs c main_arg1 (by decide)).trans <| (V1_of m c main_arg1 (by decide))

/-- The two scalars the second region reads: the reciprocal of the scale, and the product of the two scales. -/
def kpair (s A : FVec Ideal S_ .f32) : FVec Ideal S2 .f32 :=
  concatenate S2 0 [⟨S1, broadcastInDim S1 ![] bcast_S_S1 (kinv A)⟩, ⟨S1, broadcastInDim S1 ![] bcast_S_S1 (mulf s (kscale A))⟩]
    concatenates_S1_S1_S2_d0

theorem V7_v36 : (V7 m outs c main_v36 : FVec Ideal S2 .f32) = kpair (m ((c : Thread nD τ).loc main_arg1)) (amax outs c) := by
  rw [kpair, kscale, kinv, ← V6_v23 m, ← V6_arg1 m outs c]
  exact s14_v36 (V6 m outs c)

/-- The first argument, flattened to two axes. -/
theorem V7_v0 : (V7 m outs c main_v0 : FVec Ideal S32768x5120 .fp8e4m3)
    = shapeCast S32768x5120 (show FVec Ideal S4x8192x5120 .fp8e4m3 from m ((c : Thread nD τ).loc main_arg0)) shapeCasts_S4x8192x5120_S32768x5120 := by
  refine (V7_of m outs c main_v0 (by decide)).trans <| (V6_of m outs c main_v0 (by decide)).trans <| (V5_of m outs c main_v0 (by decide)).trans <|
    (V4_of m outs c main_v0 (by decide)).trans <| (V3_of m outs c main_v0 (by decide)).trans <|
    (V2_of m outs c main_v0 (by decide)).trans (s0_v0 (V0 m c))

theorem V1_v1 : (V1 m c main_v1 : FVec Ideal S32768x27648 .bf16)
    = shapeCast S32768x27648 (show FVec Ideal S4x8192x27648 .bf16 from m ((c : Thread nD τ).loc main_arg2)) shapeCasts_S4x8192x27648_S32768x27648 := by
  exact s0_v1 (V0 m c)

/-- The third argument, flattened to two axes. -/
theorem V7_v1 : (V7 m outs c main_v1 : FVec Ideal S32768x27648 .bf16)
    = shapeCast S32768x27648 (show FVec Ideal S4x8192x27648 .bf16 from m ((c : Thread nD τ).loc main_arg2)) shapeCasts_S4x8192x27648_S32768x27648 := by
  refine (V7_of m outs c main_v1 (by decide)).trans <| (V6_of m outs c main_v1 (by decide)).trans <| (V5_of m outs c main_v1 (by decide)).trans <|
    (V4_of m outs c main_v1 (by decide)).trans <| (V3_of m outs c main_v1 (by decide)).trans <|
    (V2_of m outs c main_v1 (by decide)).trans (V1_v1 m c)

theorem V7_arg3 : (V7 m outs c main_arg3 : FVec Ideal S5120x27648 .f32) = m ((c : Thread nD τ).loc main_arg3) :=
  (V7_of m outs c main_arg3 (by decide)).trans <| (V6_of m outs c main_arg3 (by decide)).trans <| (V5_of m outs c main_arg3 (by decide)).trans <|
    (V4_of m outs c main_arg3 (by decide)).trans <| (V3_of m outs c main_arg3 (by decide)).trans <|
    (V2_of m outs c main_arg3 (by decide)).trans <| (V1_of m c main_arg3 (by decide))

/-- The codes in the shape the program returns. -/
theorem V9_v38 : (V9 m outs c main_v38 : FVec Ideal S4x8192x27648 .fp8e5m2)
    = shapeCast S4x8192x27648 (show FVec Ideal S32768x27648 .fp8e5m2 from outs 8 main_v37_1 c) shapeCasts_S32768x27648_S4x8192x27648 := by
  rw [show outs 8 main_v37_1 c = V8 m outs c main_v37_1 from by simp only [V8, Function.update_self]]
  exact s2_v38 (V8 m outs c)

theorem V9_v37_0 : V9 m outs c main_v37_0 = outs 8 main_v37_0 c := by
  refine (V9_of m outs c main_v37_0 (by decide)).trans ?_
  rw [V8, Function.update_of_ne (StableHlo.devRef_ne_of_ne (by decide)), Function.update_self]

theorem V9_v26 : (V9 m outs c main_v26 : FVec Ideal S_ .f32) = kscale (amax outs c) :=
  (V9_of m outs c main_v26 (by decide)).trans <| (V8_of m outs c main_v26 (by decide)).trans (V7_v26 m outs c)

end Cert.KernelIdeal.KHost

end
-- ==== Proof.RHost.lean ====
/- What the reference's host operations compute before its region: the largest magnitude, the scale, and the two
   scalars the region reads. -/
module

public import proofs.«01_k».proof.Proof.Gen.ReferenceIdeal.Frame
public import Idealize.ShloMosaic.Lib.Claim
public import Idealize.ShloMosaic.Lib.Pointwise

@[expose] public section

set_option maxRecDepth 16384

noncomputable section

namespace Cert.ReferenceIdeal.RHost

open Cert.ReferenceIdeal Cert.ReferenceIdeal.Gen
open Idealize.ShloMosaic Idealize.ShloMosaic.TcCoe Idealize.ShloMosaic.Tactic Idealize.SL.Sem

/-- The largest magnitude of the gradient. -/
def rmax (D : FVec Ideal S4x8192x27648 .bf16) : FVec Ideal S_ .f32 :=
  extf .f32 (Host.reduce FloatOps.maximumf (Host.absf D) (constant S_ .bf16 0xFF80#16 : FVec Ideal S_ .bf16) reducesTo_S4x8192x27648_S_d0_1_2 h_S_ : FVec Ideal S_ .bf16) bitsLt_bf16_f32

/-- The table of powers of two. -/
def powers : FVec Ideal S239 .f32 := fun i => FloatOps.ofBits .f32 (lit0 (S239.rowMajor i))

/-- The least power of two of the table above the scaled maximum, the last one if there is none. -/
def above (A : FVec Ideal S_ .f32) : FVec Ideal S_ .f32 :=
  Host.reduce FloatOps.minimumf
    (select (cmpf .ogt powers (broadcastInDim S239 ![] bcast_S_S239 (mulf A (constant S_ .f32 0x37924925#32)))) powers
      (broadcastInDim S239 ![] bcast_S_S239 (constant S_ .f32 0x78000000#32)))
    (constant S_ .f32 0x7F800000#32 : FVec Ideal S_ .f32) reducesTo_S239_S_d0 h_S_

/-- Whether the scaled maximum is a normal number, and the maximum is not zero. -/
def normal (A : FVec Ideal S_ .f32) : IVec S_ 1 :=
  andi (andi (cmpf .oge (mulf A (constant S_ .f32 0x37924925#32)) (constant S_ .f32 0x00800000#32))
    (cmpf .olt (mulf A (constant S_ .f32 0x37924925#32)) (constant S_ .f32 0x7F800000#32)))
    (cmpf .une A (constant S_ .f32 0x00000000#32))

/-- The scale. -/
def rscale (A : FVec Ideal S_ .f32) : FVec Ideal S_ .f32 :=
  select (normal A) (above A) (constant S_ .f32 0x3F800000#32)

/-- The reciprocal of the scale. -/
def rinv (A : FVec Ideal S_ .f32) : FVec Ideal S_ .f32 :=
  extf .f32 (truncf .bf16 (Host.divf (constant S_ .f32 0x3F800000#32) (rscale A)) bitsLt_bf16_f32) bitsLt_bf16_f32

section
variable (W : Valuation τ sig (Elt Ideal))

/-- Each stretch of host operations from any contents `W`. -/
theorem s0_v2 : (StableHlo.after hostOps0 W main_v2 : FVec Ideal S_ .f32) = rmax (show FVec Ideal S4x8192x27648 .bf16 from W main_arg2) := by
  after_results; rfl
theorem s0_v3 : (StableHlo.after hostOps0 W main_v3 : FVec Ideal S_ .f32)
    = mulf (rmax (show FVec Ideal S4x8192x27648 .bf16 from W main_arg2)) (constant S_ .f32 0x37924925#32) := by
  after_results; rfl
theorem s0_cst : (StableHlo.after hostOps0 W main_cst : FVec Ideal S239 .f32) = powers := by
  after_results; rfl
theorem s0_cst2 : (StableHlo.after hostOps0 W main_cst_2 : FVec Ideal S_ .f32) = constant (F := Ideal) S_ .f32 0x78000000#32 := by
  after_results
theorem s0_v5 : (StableHlo.after hostOps0 W main_v5 : IVec S239 1)
    = cmpf .ogt powers (broadcastInDim S239 ![] bcast_S_S239
        (mulf (rmax (show FVec Ideal S4x8192x27648 .bf16 from W main_arg2)) (constant S_ .f32 0x37924925#32))) := by
  after_results; rfl
theorem s1_v6 : (StableHlo.after hostOps0_1 W main_v6 : FVec Ideal S239 .f32)
    = select (show IVec S239 1 from W main_v5) (show FVec Ideal S239 .f32 from W main_cst)
        (broadcastInDim S239 ![] bcast_S_S239 (show FVec Ideal S_ .f32 from W main_cst_2)) := by
  after_results; rfl
theorem s2_v7 : (StableHlo.after hostOps0_2 W main_v7 : FVec Ideal S_ .f32)
    = Host.reduce FloatOps.minimumf (show FVec Ideal S239 .f32 from W main_v6) (constant S_ .f32 0x7F800000#32 : FVec Ideal S_ .f32) reducesTo_S239_S_d0 h_S_ := by
  after_results; try rfl
theorem s2_v12 : (StableHlo.after hostOps0_2 W main_v12 : IVec S_ 1)
    = andi (andi (cmpf .oge (show FVec Ideal S_ .f32 from W main_v3) (constant S_ .f32 0x00800000#32))
        (cmpf .olt (show FVec Ideal S_ .f32 from W main_v3) (constant S_ .f32 0x7F800000#32)))
        (cmpf .une (show FVec Ideal S_ .f32 from W main_v2) (constant S_ .f32 0x00000000#32)) := by
  after_results; try rfl
theorem s2_cst7 : (StableHlo.after hostOps0_2 W main_cst_7 : FVec Ideal S_ .f32) = constant (F := Ideal) S_ .f32 0x3F800000#32 := by
  after_results
theorem s3_v13 : (StableHlo.after hostOps0_3 W main_v13 : FVec Ideal S_ .f32)
    = select (show IVec S_ 1 from W main_v12) (show FVec Ideal S_ .f32 from W main_v7) (show FVec Ideal S_ .f32 from W main_cst_7) := by
  after_results; rfl
theorem s4_v17 : (StableHlo.after hostOps0_4 W main_v17 : FVec Ideal S1 .f32)
    = shapeCast S1 (extf .f32 (truncf .bf16 (Host.divf (constant S_ .f32 0x3F800000#32) (show FVec Ideal S_ .f32 from W main_v13)) bitsLt_bf16_f32) bitsLt_bf16_f32) shapeCasts_S_S1 := by
  after_results; rfl
theorem s4_v19 : (StableHlo.after hostOps0_4 W main_v19 : FVec Ideal S1 .f32)
    = shapeCast S1 (mulf (show FVec Ideal S_ .f32 from W main_arg1) (show FVec Ideal S_ .f32 from W main_v13)) shapeCasts_S_S1 := by
  after_results; rfl
theorem s4_v13 : (StableHlo.after hostOps0_4 W main_v13) = W main_v13 := by
  after_results
theorem s3_arg1 : (StableHlo.after hostOps0_3 W main_arg1) = W main_arg1 := by
  after_results
theorem s2_arg1 : (StableHlo.after hostOps0_2 W main_arg1) = W main_arg1 := by
  after_results
theorem s1_arg1 : (StableHlo.after hostOps0_1 W main_arg1) = W main_arg1 := by
  after_results
theorem s0_arg1 : (StableHlo.after hostOps0 W main_arg1) = W main_arg1 := by
  after_results
theorem s1_v2 : (StableHlo.after hostOps0_1 W main_v2) = W main_v2 := by
  after_results
theorem s1_v3 : (StableHlo.after hostOps0_1 W main_v3) = W main_v3 := by
  after_results
theorem all_eq : StableHlo.after (List.flatten [hostOps0, hostOps0_1, hostOps0_2, hostOps0_3, hostOps0_4]) W
    = StableHlo.after hostOps0_4 (StableHlo.after hostOps0_3 (StableHlo.after hostOps0_2 (StableHlo.after hostOps0_1 (StableHlo.after hostOps0 W)))) := by
  simp only [List.flatten_cons, List.flatten_nil, List.append_nil, StableHlo.after_append]
theorem v13_eq : (StableHlo.after hostOps0_3 (StableHlo.after hostOps0_2 (StableHlo.after hostOps0_1 (StableHlo.after hostOps0 W))) main_v13 : FVec Ideal S_ .f32)
    = rscale (rmax (show FVec Ideal S4x8192x27648 .bf16 from W main_arg2)) := by
  rw [s3_v13, s2_v12, s2_v7, s2_cst7, s1_v6, s1_v3, s1_v2, s0_v2, s0_v3, s0_v5, s0_cst, s0_cst2]
  rfl
end

section
variable (m : (ℓ : Loc nD τ sig) → Buf (Elt Ideal) ℓ)

theorem V_v13 (c : Dev nD) : (V m c main_v13 : FVec Ideal S_ .f32)
    = rscale (rmax (show FVec Ideal S4x8192x27648 .bf16 from m ((c : Thread nD τ).loc main_arg2))) := by
  unfold V
  rw [all_eq, s4_v13]
  exact v13_eq _
theorem V_v17 (c : Dev nD) : (V m c main_v17 : FVec Ideal S1 .f32)
    = shapeCast S1 (rinv (rmax (show FVec Ideal S4x8192x27648 .bf16 from m ((c : Thread nD τ).loc main_arg2)))) shapeCasts_S_S1 := by
  unfold V
  rw [all_eq, s4_v17]
  exact congrArg (fun s : FVec Ideal S_ .f32 => (shapeCast S1 (extf .f32 (truncf .bf16 (Host.divf (constant S_ .f32 0x3F800000#32) s) bitsLt_bf16_f32) bitsLt_bf16_f32) shapeCasts_S_S1 : FVec Ideal S1 .f32)) (v13_eq _)
theorem V_v19 (c : Dev nD) : (V m c main_v19 : FVec Ideal S1 .f32)
    = shapeCast S1 (mulf (show FVec Ideal S_ .f32 from m ((c : Thread nD τ).loc main_arg1)) (rscale (rmax (show FVec Ideal S4x8192x27648 .bf16 from m ((c : Thread nD τ).loc main_arg2))))) shapeCasts_S_S1 := by
  unfold V
  rw [all_eq, s4_v19, s3_arg1, s2_arg1, s1_arg1, s0_arg1]
  exact congrArg (fun s : FVec Ideal S_ .f32 => (shapeCast S1 (mulf (show FVec Ideal S_ .f32 from m ((c : Thread nD τ).loc main_arg1)) s) shapeCasts_S_S1 : FVec Ideal S1 .f32)) (v13_eq _)
end

end Cert.ReferenceIdeal.RHost

end
-- ==== Proof.Scale.lean ====
/- Powers of two put together from their bits, and the two ways of choosing the scale. -/
module

public import Idealize.ShloMosaic.Lib.Pointwise
public import Idealize.ShloMosaic.PureOps.Ideal
public import Idealize.ShloMosaic.Lib.IdealHost

@[expose] public section

set_option maxRecDepth 16384

noncomputable section

namespace Cert.Scale

open Idealize.ShloMosaic

/-- The extended real of a power of two between `2^-126` and `2^127`, by the field that holds its exponent. -/
def pw (k : ℕ) : EReal := (((2 : ℝ) ^ ((k : ℤ) - 127) : ℝ) : EReal)

/-- The fields of a word holding an exponent and nothing else. -/
theorem fields : ∀ k : Fin 255, ((BitVec.ofNat 32 k.val <<< 23).extractLsb' 31 1 == 1#1) = false
    ∧ ((BitVec.ofNat 32 k.val <<< 23).extractLsb' 23 8).toNat = k.val
    ∧ ((BitVec.ofNat 32 k.val <<< 23).extractLsb' 0 23).toNat = 0 := by decide +kernel

theorem ieee_pw (w : BitVec 32) (k : ℕ) (h1 : 1 ≤ k) (h2 : k ≤ 254) (f1 : (w.extractLsb' (8 + 23) 1 == 1#1) = false)
    (f2 : (w.extractLsb' 23 8).toNat = k) (f3 : (w.extractLsb' 0 23).toNat = 0) : Ideal.ieee 8 23 w = pw k := by
  unfold Ideal.ieee pw
  rw [f1, f2, f3]
  dsimp only
  rw [if_neg (by omega), if_neg (by omega)]
  refine congrArg _ ?_
  rw [show ((k : ℤ) - 127) = 23 + ((k : ℤ) - (2 ^ (8 - 1) - 1) - (23 : ℕ)) by norm_num, zpow_add₀ (by norm_num)]
  norm_num

/-- A word holding the exponent field `k` and nothing else is `2^(k - 127)`. -/
theorem ofBits_pw (k : ℕ) (h1 : 1 ≤ k) (h2 : k ≤ 254) : Ideal.ofBits .f32 (BitVec.ofNat 32 k <<< 23) = pw k := by
  obtain ⟨f1, f2, f3⟩ := fields ⟨k, by omega⟩
  generalize (BitVec.ofNat 32 k <<< 23) = w at f1 f2 f3
  exact ieee_pw w k h1 h2 f1 f2 f3

theorem pw_pos (k : ℕ) : 0 < pw k := by
  unfold pw; exact EReal.coe_pos.mpr (zpow_pos (by norm_num : (0 : ℝ) < 2) _)
theorem pw_ne_top (k : ℕ) : pw k ≠ ⊤ := EReal.coe_ne_top _
theorem pw_le {a b : ℕ} (h : a ≤ b) : pw a ≤ pw b := by
  unfold pw
  exact EReal.coe_le_coe_iff.mpr (zpow_le_zpow_right₀ (by norm_num : (1 : ℝ) ≤ 2) (by omega))
theorem pw_one : pw 127 = 1 := by unfold pw; norm_num

/-- The reciprocal of a power of two. -/
theorem div_pw (k : ℕ) (h : k ≤ 254) : Ideal.div 1 (pw k) = pw (254 - k) := by
  unfold Ideal.div
  rw [if_neg (pw_pos k).ne', one_mul]
  unfold pw
  rw [← EReal.coe_inv, ← zpow_neg]
  congr 2
  omega

/-- The powers at most `v` are the first `n` of them, for some `n`. -/
theorem exists_count (v : EReal) : ∃ n : Fin 240, ∀ i : ℕ, i < 239 → (pw (i + 1) ≤ v ↔ i < n.val) := by
  classical
  suffices H : ∀ N : ℕ, ∃ n : ℕ, n ≤ N ∧ ∀ i : ℕ, i < N → (pw (i + 1) ≤ v ↔ i < n) by
    obtain ⟨n, hn, h⟩ := H 239
    exact ⟨⟨n, by omega⟩, h⟩
  intro N
  induction N with
  | zero => exact ⟨0, le_rfl, fun i h => absurd h (by omega)⟩
  | succ N ih =>
    obtain ⟨n, hn, h⟩ := ih
    by_cases hv : pw (N + 1) ≤ v
    · refine ⟨N + 1, le_rfl, fun i hi => ⟨fun _ => hi, fun _ => (pw_le (by omega)).trans hv⟩⟩
    · refine ⟨n, by omega, fun i hi => ?_⟩
      rcases Nat.lt_succ_iff_lt_or_eq.mp hi with h' | rfl
      · exact h i h'
      · exact ⟨fun h'' => absurd h'' hv, fun h'' => absurd h'' (by omega)⟩

/-- The word the kernel makes for the power numbered `i`. -/
def word (i : ℕ) : BitVec 32 :=
  IntOp.shli ArithUnit.host (IntOp.addi (IntOp.addi (4294967170#32) (BitVec.ofNat 32 i)) 127#32) 23#32

theorem word_eq : ∀ i : Fin 239, word i.val = BitVec.ofNat 32 (i.val + 1) <<< 23 := by decide +kernel

/-- Adding up ones and zeros, the first `n` of them ones. -/
theorem fold_count : ∀ n : Fin 240, Finset.fold IntOp.addi (0#32)
    (fun x : Fin 239 => BitVec.setWidth 32 (BitVec.ofBool (decide (x.val < n.val)))) Finset.univ = BitVec.ofNat 32 n.val := by
  decide +kernel

/-- The count the kernel makes. -/
def count (v : EReal) : BitVec 32 := Finset.fold IntOp.addi (0#32)
    (fun x : Fin 239 => BitVec.setWidth 32 (BitVec.ofBool (decide (Ideal.ofBits .f32 (word x.val) ≤ v)))) Finset.univ

theorem count_eq (v : EReal) (n : Fin 240) (h : ∀ i : ℕ, i < 239 → (pw (i + 1) ≤ v ↔ i < n.val)) : count v = BitVec.ofNat 32 n.val := by
  rw [← fold_count n]
  unfold count
  congr 1
  funext x
  have hx : Ideal.ofBits .f32 (word x.val) = pw (x.val + 1) := by
    rw [word_eq, ofBits_pw _ (by omega) (by have := x.isLt; omega)]
  rw [hx]
  congr 2
  exact decide_eq_decide.mpr (h x.val x.isLt)

/-- The exponent the kernel chooses, from the count and the two tests. -/
def exponent (zero top : Prop) [Decidable zero] [Decidable top] (n : BitVec 32) : BitVec 32 :=
  if zero then 0#32 else Scalar.select (IntOp.ori (IntOp.cmpi CmpIPredicate.eq n 0#32) (BitVec.ofBool (decide top))) (0#32) (IntOp.subi n 126#32)

/-- The word of the scale, and the word of its reciprocal, when no test holds. -/
theorem words : ∀ n : Fin 240, n.val ≠ 0 →
    IntOp.shli ArithUnit.host (IntOp.addi (exponent False False (BitVec.ofNat 32 n.val)) 127#32) 23#32 = BitVec.ofNat 32 (n.val + 1) <<< 23
    ∧ IntOp.shli ArithUnit.host (IntOp.addi (-(exponent False False (BitVec.ofNat 32 n.val))) 127#32) 23#32 = BitVec.ofNat 32 (253 - n.val) <<< 23 := by
  decide +kernel

/-- The exponent is zero when some test holds. -/
theorem exponent_zero : ∀ (z t : Bool) (n : Fin 240), (z = true ∨ t = true ∨ n.val = 0) → exponent (z = true) (t = true) (BitVec.ofNat 32 n.val) = 0#32 := by
  decide +kernel

end Cert.Scale

end
-- ==== Proof.ScaleEq.lean ====
/- The kernel's scale, put together from a count, is the reference's scale, looked up in a table. -/
module

public import proofs.«01_k».proof.Proof.KHost
public import proofs.«01_k».proof.Proof.RHost
public import proofs.«01_k».proof.Proof.Scale

@[expose] public section

set_option maxRecDepth 16384

noncomputable section

namespace Cert.ScaleEq

open Idealize.ShloMosaic Idealize.ShloMosaic.TcCoe Idealize.ShloMosaic.Tactic
open Cert.ReferenceIdeal.RHost Cert.KernelIdeal.KHost Cert.Scale

variable (A : FVec Ideal Cert.KernelIdeal.S_ .f32)

/-- The scaled maximum. -/
abbrev sm : EReal := A ix0 * Ideal.ofBits .f32 0x37924925#32

theorem top_eq : Ideal.ofBits .f32 0x7F800000#32 = ⊤ := by simp [Ideal.ofBits, Ideal.ieee]

theorem kcount_eq : kcount A ix0 = count (sm A) := by
  pointwise [kcount]; rfl

theorem kexp_eq : kexp A ix0 = exponent (A ix0 = 0) (sm A = ⊤) (count (sm A)) := by
  rw [← kcount_eq]
  pointwise [kexp, kexp0]
  rw [top_eq]; rfl

theorem kscale_eq : kscale A ix0 = Ideal.ofBits .f32 (IntOp.shli ArithUnit.host (IntOp.addi (exponent (A ix0 = 0) (sm A = ⊤) (count (sm A))) 127#32) 23#32) := by
  rw [← kexp_eq]; pointwise [kscale]

theorem kinv_eq : kinv A ix0 = Ideal.ofBits .f32 (IntOp.shli ArithUnit.host (IntOp.addi (-(exponent (A ix0 = 0) (sm A = ⊤) (count (sm A)))) 127#32) 23#32) := by
  rw [← kexp_eq]; pointwise [kinv]

theorem lit_eq : ∀ i : Fin 239, Cert.ReferenceIdeal.lit0 (Cert.ReferenceIdeal.S239.rowMajor (ix1 i)) = BitVec.ofNat 32 (i.val + 2) <<< 23 := by
  decide +kernel

/-- The reference's least power above, by its fold. -/
theorem above_eq (A : FVec Ideal Cert.ReferenceIdeal.S_ .f32) : above A ix0
    = Finset.fold min ⊤ (fun k : Fin 239 => if A ix0 * Ideal.ofBits .f32 0x37924925#32 < pw (k.val + 2) then pw (k.val + 2) else pw 240) Finset.univ := by
  pointwise [above, powers]
  rw [top_eq]
  refine congrArg (fun f => Finset.fold min ⊤ f Finset.univ) (funext fun k => ?_)
  have h : Ideal.ofBits .f32 (Cert.ReferenceIdeal.lit0 (Cert.ReferenceIdeal.S239.rowMajor (ix1 k))) = pw (k.val + 2) := by
    exact (congrArg (Ideal.ofBits .f32) (lit_eq k)).trans (ofBits_pw _ (by omega) (by have := k.isLt; omega))
  set_option backward.isDefEq.respectTransparency false in
  rw [h, show (2013265920#32) = BitVec.ofNat 32 240 <<< 23 by decide, ofBits_pw 240 (by omega) (by omega)]

/-- The least power above, from the count of the powers at most the scaled maximum. -/
theorem fold_above (v : EReal) (n : Fin 240) (h : ∀ i : ℕ, i < 239 → (pw (i + 1) ≤ v ↔ i < n.val)) (h0 : n.val ≠ 0) :
    Finset.fold min ⊤ (fun k : Fin 239 => if v < pw (k.val + 2) then pw (k.val + 2) else pw 240) Finset.univ = pw (n.val + 1) := by
  have hn := n.isLt
  apply le_antisymm
  · refine (Finset.fold_min_le _).mpr (Or.inr ⟨⟨n.val - 1, by omega⟩, Finset.mem_univ _, ?_⟩)
    dsimp only
    rw [show n.val - 1 + 2 = n.val + 1 by omega]
    split
    · exact le_rfl
    · rename_i hv
      by_cases h9 : n.val = 239
      · rw [h9]
      · exact absurd (lt_of_not_ge fun hle => absurd ((h n.val (by omega)).mp hle) (lt_irrefl _)) hv
  · refine (Finset.le_fold_min _).mpr ⟨le_top, fun x _ => ?_⟩
    have hx := x.isLt
    split
    · rename_i hv
      apply pw_le
      by_contra hc
      have := (h (x.val + 1) (by omega)).mpr (by omega)
      exact absurd this (not_le_of_gt hv)
    · exact pw_le (by omega)

theorem rscale_eq (A : FVec Ideal Cert.ReferenceIdeal.S_ .f32) : rscale A ix0 =
    if (pw 1 ≤ A ix0 * Ideal.ofBits .f32 0x37924925#32 ∧ A ix0 * Ideal.ofBits .f32 0x37924925#32 < ⊤) ∧ A ix0 ≠ 0 then above A ix0 else 1 := by
  pointwise [rscale, normal]
  rw [top_eq, show (8388608#32) = BitVec.ofNat 32 1 <<< 23 by decide, ofBits_pw 1 (by omega) (by omega)]
  generalize above A ix0 = q
  generalize A ix0 * Ideal.ofBits .f32 0x37924925#32 = v
  generalize A ix0 = a
  by_cases h1 : pw 1 ≤ v <;> by_cases h2 : v < ⊤ <;> by_cases h3 : a = 0 <;>
  simp only [h1, h2, h3, ne_eq, not_true_eq_false, not_false_eq_true, and_true, and_false, and_self, decide_true, decide_false, if_true, if_false] <;> rfl

theorem rinv_eq (A : FVec Ideal Cert.ReferenceIdeal.S_ .f32) : rinv A ix0 = Ideal.div 1 (rscale A ix0) := by
  pointwise [rinv]

/-- Both scales are one power of two, and both reciprocals are its reciprocal. -/
theorem scale_eq : ∃ k : ℕ, 1 ≤ k ∧ k ≤ 253 ∧ kscale A ix0 = pw k ∧ kinv A ix0 = pw (254 - k)
    ∧ rscale A ix0 = pw k ∧ rinv A ix0 = pw (254 - k) := by
  classical
  obtain ⟨n, hn⟩ := exists_count (sm A)
  have hc := count_eq (sm A) n hn
  have hlt := n.isLt
  have h0 := hn 0 (by omega)
  by_cases hbad : A ix0 = 0 ∨ sm A = ⊤ ∨ n.val = 0
  · have he : exponent (A ix0 = 0) (sm A = ⊤) (count (sm A)) = 0#32 := by
      have := exponent_zero (decide (A ix0 = 0)) (decide (sm A = ⊤)) n (by simpa using hbad)
      rw [hc, ← this]
      simp only [exponent, decide_eq_true_eq]
    have hr : rscale A ix0 = pw 127 := by
      rw [rscale_eq, if_neg, pw_one]
      rintro ⟨⟨a, b⟩, d⟩
      rcases hbad with h | h | h
      · exact d h
      · exact absurd h (ne_of_lt b)
      · have := h0.mp a; omega
    refine ⟨127, by omega, by omega, ?_, ?_, hr, ?_⟩
    · rw [kscale_eq, he, ← ofBits_pw 127 (by omega) (by omega)]; rfl
    · rw [kinv_eq, he, ← ofBits_pw (254 - 127) (by omega) (by omega)]; rfl
    · rw [rinv_eq, hr, div_pw 127 (by omega)]
  · push Not at hbad
    obtain ⟨hz, ht, hn0⟩ := hbad
    have he : exponent (A ix0 = 0) (sm A = ⊤) (count (sm A)) = exponent False False (BitVec.ofNat 32 n.val) := by
      rw [hc]; simp only [exponent, hz, ht, if_false, decide_false]
    have hw := words n hn0
    have hr : rscale A ix0 = pw (n.val + 1) := by
      rw [rscale_eq, if_pos ⟨⟨h0.mpr (by omega), lt_of_le_of_ne le_top ht⟩, hz⟩, above_eq]
      exact fold_above _ n hn hn0
    refine ⟨n.val + 1, by omega, by omega, ?_, ?_, hr, ?_⟩
    · rw [kscale_eq, he, hw.1, ofBits_pw _ (by omega) (by omega)]
    · rw [kinv_eq, he, hw.2, ofBits_pw _ (by omega) (by omega)]
      congr 1; omega
    · rw [rinv_eq, hr, div_pw _ (by omega)]

end Cert.ScaleEq

end
-- ==== Proof.AmaxValue.lean ====
/- What the maximum call leaves in its result: the greatest magnitude of the gradient. -/
module
public import proofs.«01_k».proof.Proof.AmaxRegion
public import Idealize.ShloMosaic.Lib.Pipeline.ValueKit
@[expose] public section
set_option maxRecDepth 16384
noncomputable section
namespace Cert.KernelIdeal.Amax
open Cert.KernelIdeal Cert.KernelIdeal.Gen
open Idealize.ShloMosaic Idealize.ShloMosaic.TcCoe Idealize.ShloMosaic.Tactic Idealize.SL.Sem
variable (W : (c : Dev nD) → Valuation τ sig (Elt Ideal))

/-- The blocks of the gradient, by the point. -/
theorem idx_val : ∀ t : Fin cfg0.N, win0_0.index t = ![t.val, 0] := (by decide +kernel : ∀ t : Fin grid0.N, _)

/-- The rows of a block folded sixteen by sixteen: at most `z` when every magnitude there is. -/
theorem pay1_le (v0 : FVec Ideal S256x27648 .bf16) (r : Fin 16) (l : Fin 27648) (z : EReal) :
    k0_pay1 (F := Ideal) v0 (ix2 r l) ≤ z ↔ ∀ x : Fin 16, FloatOps.absf (F := Ideal) (φ := .bf16) (v0 (ix2 ⟨x.val * 16 + r.val, by omega⟩ l)) ≤ z := by
  have h : k0_pay1 (F := Ideal) v0 (ix2 r l) = Finset.fold max ⊥
      (fun x : Fin 16 => (FloatOps.absf (F := Ideal) (φ := .bf16) (v0 (ix2 ⟨x.val * 16 + r.val, by omega⟩ l)) : EReal)) Finset.univ := by
    pointwise [k0_pay1]
    rw [show Ideal.ofBits FTy.bf16 65408#16 = ⊥ by simp [Ideal.ofBits, Ideal.ieee]]
  rw [h, Finset.fold_max_le]
  simp

theorem pay4_le (v0 : FVec Ideal S16x27648 .bf16) (z : EReal) : k0_pay4 (F := Ideal) v0 ≤ z ↔ ∀ (r : Fin 16) (l : Fin 27648), v0 (ix2 r l) ≤ z := by
  have h : k0_pay4 (F := Ideal) v0 = Finset.fold max ⊥ (fun x : Fin 16 × Fin 27648 => v0 (ix2 x.1 x.2)) Finset.univ := by
    pointwise [k0_pay4]
    rw [show Ideal.ofBits FTy.f32 4286578688#32 = ⊥ by simp [Ideal.ofBits, Ideal.ieee]]
  rw [h, Finset.fold_max_le]
  simp

theorem read_scratch (x : Vec Ideal S16x27648 .bf16) (h : (Memref.whole cc0_scratch0).IsWhole) :
    View.read (Elt Ideal) (View.whole cc0_scratch0) (h.unread x) = x := h.read_unread x

theorem sc_A (c : Dev nD) (t : Fin cfg0.N) (h0 : t.val % 128 = 0) (h1 : ¬1 ≤ t.val) (h2 : ¬t.val % 128 = 127) :
    (outsAt0 W c t.val t.isLt).2 = k0_pay1 (iblk W c 0 t) := by
  rw [outsAt0_A W c t h0 h1 h2]
  dsimp only
  unfold sout0_A_0
  frame_out
  funext j
  pointwise [k0_pay2]
theorem pay3_eq (v0 : FVec Ideal S256x27648 .bf16) (v14 : FVec Ideal S16x27648 .bf16) (i : S16x27648.Idx) :
    k0_pay3 (F := Ideal) v0 v14 i = max (v14 i) (k0_pay1 (F := Ideal) v0 i) := by
  pointwise [k0_pay3]
theorem sc_B (c : Dev nD) (t : Fin cfg0.N) (h0 : ¬t.val % 128 = 0) (h1 : 1 ≤ t.val) (h2 : ¬t.val % 128 = 127) :
    (outsAt0 W c t.val t.isLt).2 = k0_pay3 (iblk W c 0 t) (outsAt0 W c (t.val - 1) (Nat.lt_of_le_of_lt (Nat.sub_le _ _) t.isLt)).2 := by
  rw [outsAt0_B W c t h0 h1 h2]
  dsimp only
  unfold sout0_B_0
  frame_out
  rw [read_scratch]
theorem sc_C (c : Dev nD) (t : Fin cfg0.N) (h0 : ¬t.val % 128 = 0) (h1 : 1 ≤ t.val) (h2 : t.val % 128 = 127) :
    (outsAt0 W c t.val t.isLt).2 = k0_pay3 (iblk W c 0 t) (outsAt0 W c (t.val - 1) (Nat.lt_of_le_of_lt (Nat.sub_le _ _) t.isLt)).2 := by
  rw [outsAt0_C W c t h0 h1 h2]
  dsimp only
  unfold sout0_C_0
  frame_out
  rw [read_scratch]
theorem out_C (c : Dev nD) (t : Fin cfg0.N) (h0 : ¬t.val % 128 = 0) (h1 : 1 ≤ t.val) (h2 : t.val % 128 = 127) (j) :
    (outsAt0 W c t.val t.isLt).1 j = k0_pay4 (k0_pay3 (iblk W c 0 t) (outsAt0 W c (t.val - 1) (Nat.lt_of_le_of_lt (Nat.sub_le _ _) t.isLt)).2) := by
  rw [outsAt0_C W c t h0 h1 h2]
  dsimp only
  unfold out0_C_1
  frame_out
  rw [read_scratch]

theorem iblk_eq (c : Dev nD) (t : Fin cfg0.N) (a : Fin 256) (l : Fin 27648) :
   (show FVec Ideal S256x27648 .bf16 from iblk W c 0 t) (ix2 a l) = (show FVec Ideal S32768x27648 .bf16 from W c main_v1) (ix2 ⟨t.val * 256 + a.val, by have := t.isLt; have h : cfg0.N = 128 := N_0; omega⟩ l) := by
  blk_ext! [iblk, V, idx_val t]

/-- The scratch after point `n`: at most `z` when every magnitude of the rows so far is. -/
theorem sc_le (c : Dev nD) (r : Fin 16) (l : Fin 27648) (z : EReal) : ∀ (n : ℕ) (hn : n < cfg0.N),
    ((show FVec Ideal S16x27648 .bf16 from (outsAt0 W c n hn).2) (ix2 r l) ≤ z
      ↔ ∀ t x : ℕ, t ≤ n → x < 16 → ∀ h : t * 256 + (x * 16 + r.val) < 32768,
        FloatOps.absf (F := Ideal) (φ := .bf16) ((show FVec Ideal S32768x27648 .bf16 from W c main_v1) (ix2 ⟨t * 256 + (x * 16 + r.val), h⟩ l)) ≤ z) := by
  have hN : cfg0.N = 128 := N_0
  have hp : ∀ (n : ℕ) (hn : n < cfg0.N), (k0_pay1 (F := Ideal) (iblk W c 0 ⟨n, hn⟩) (ix2 r l) ≤ z
      ↔ ∀ x : ℕ, x < 16 → ∀ h : n * 256 + (x * 16 + r.val) < 32768,
        FloatOps.absf (F := Ideal) (φ := .bf16) ((show FVec Ideal S32768x27648 .bf16 from W c main_v1) (ix2 ⟨n * 256 + (x * 16 + r.val), h⟩ l)) ≤ z) := by
    intro n hn
    refine (pay1_le _ r l z).trans ⟨fun h x hx h' => ?_, fun h x => ?_⟩
    · have := h ⟨x, hx⟩
      exact (iff_of_eq (congrArg (fun q : EReal => FloatOps.absf (F := Ideal) (φ := .bf16) q ≤ z) (iblk_eq W c ⟨n, hn⟩ _ _))).mp this
    · have := h x.val x.isLt (by have := x.isLt; have := r.isLt; omega)
      exact (iff_of_eq (congrArg (fun q : EReal => FloatOps.absf (F := Ideal) (φ := .bf16) q ≤ z) (iblk_eq W c ⟨n, hn⟩ _ _))).mpr this
  intro n
  induction n with
  | zero =>
    intro hn
    rw [show (outsAt0 W c 0 hn).2 = _ from sc_A W c ⟨0, hn⟩ (by norm_num) (by norm_num) (by norm_num)]
    refine (hp 0 hn).trans ⟨fun h t x ht hx h' => ?_, fun h x hx h' => h 0 x le_rfl hx h'⟩
    obtain rfl : t = 0 := by omega
    exact h x hx h'
  | succ n ih =>
    intro hn
    have e : (outsAt0 W c (n + 1) hn).2 = k0_pay3 (iblk W c 0 ⟨n + 1, hn⟩) (outsAt0 W c n (by omega)).2 := by
      by_cases h7 : (n + 1) % 128 = 127
      · exact sc_C W c ⟨n + 1, hn⟩ (by dsimp only; omega) (by dsimp only; omega) h7
      · exact sc_B W c ⟨n + 1, hn⟩ (by dsimp only; omega) (by dsimp only; omega) h7
    rw [e]
    refine (Iff.of_eq (congrArg (fun q : EReal => q ≤ z) (pay3_eq _ _ _))).trans (max_le_iff.trans ?_)
    refine (and_congr (ih (by omega)) (hp (n + 1) hn)).trans ⟨fun h t x ht hx h' => ?_, fun h => ⟨fun t x ht hx h' => h t x (by omega) hx h', fun x hx h' => h (n + 1) x le_rfl hx h'⟩⟩
    rcases Nat.lt_or_ge n t with h1 | h1
    · obtain rfl : t = n + 1 := by omega
      exact h.2 x hx h'
    · exact h.1 t x h1 hx h'

theorem flush_last : ∀ t : Fin cfg0.N, (cfg0.win 1).flush t = true → t.val = 127 := (by decide +kernel : ∀ t : Fin grid0.N, _)

/-- What the first region leaves: at most `z` when every magnitude of the gradient is. -/
theorem amax_le (c : Dev nD) (i : S1x1.Idx) (z : EReal) :
    (show FVec Ideal S1x1 .f32 from (dat W c).arrAt 1 cfg0.N) i ≤ z
      ↔ ∀ (r : Fin 32768) (l : Fin 27648), FloatOps.absf (F := Ideal) (φ := .bf16) ((show FVec Ideal S32768x27648 .bf16 from W c main_v1) (ix2 r l)) ≤ z := by
  refine (dat W c).arrAt_forall_of_covers 1 (fun i v => (show EReal from v) ≤ z ↔ _) (by decide +kernel) (fun t hf y => ?_) i
  blk_simp
  have ht := flush_last t hf
  have hN : cfg0.N = 128 := N_0
  rw [after0_1, out_C W c t (by omega) (by omega) (by omega)]
  rw [← sc_C W c t (by omega) (by omega) (by omega)]
  refine (pay4_le _ z).trans ⟨fun h r l => ?_, fun h r l => (sc_le W c r l z t.val t.isLt).mpr fun _ _ _ _ h' => h _ _⟩
  have hr := r.isLt
  have := (sc_le W c ⟨r.val % 256 % 16, by omega⟩ l z t.val t.isLt).mp (h _ l) (r.val / 256) (r.val % 256 / 16) (by omega) (by omega) (by dsimp only; omega)
  have e : (⟨r.val / 256 * 256 + (r.val % 256 / 16 * 16 + r.val % 256 % 16), by omega⟩ : Fin 32768) = r := by ext; dsimp only; omega
  rwa [e] at this
end Cert.KernelIdeal.Amax
end
-- ==== Proof.QuantStep.lean ====
/- What one grid point of the quantise-and-multiply call does to its two blocks, entry by entry. -/
module

public import proofs.«01_k».proof.Proof.QuantRegion
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.KernelIdeal.Quant

open Cert.KernelIdeal Cert.KernelIdeal.Gen
open Idealize.ShloMosaic Idealize.ShloMosaic.TcCoe Idealize.ShloMosaic.Tactic Idealize.SL.Sem

/-- The previous block plus the scaled product of the transposed rows and the codes. -/
def added (s : EReal) (x : FVec Ideal S1024x5120 .fp8e4m3) (q : FVec Ideal S1024x1024 .fp8e5m2) (p : FVec Ideal S5120x1024 .f32)
    (a : Fin 5120) (b : Fin 1024) : EReal :=
  p (ix2 a b) + (∑ r : Fin 1024, x (ix2 r a) * q (ix2 r b)) * s

/-- One chunk of 512 rows holds that sum at its rows. -/
theorem chunk (o : ℕ) (h : ∀ a, (![o, 0] : Fin 2 → ℕ) a + (![512, 1024] : Fin 2 → ℕ) a ≤ S5120x1024.size a)
    (h' : ∀ a, (![0, o] : Fin 2 → ℕ) a + (![1024, 512] : Fin 2 → ℕ) a ≤ S1024x5120.size a)
    (s : EReal) (x : FVec Ideal S1024x5120 .fp8e4m3) (q : FVec Ideal S1024x1024 .fp8e5m2) (p : FVec Ideal S5120x1024 .f32)
    (z : S512x1024.Idx) :
    k1_pay4 (F := Ideal) s (View.ld (S := S5120x1024) p (Rect.unit ![o, 0] ![512, 1024] h)) (View.ld (S := S1024x5120) x (Rect.unit ![0, o] ![1024, 512] h')) q z
      = (fun y : S5120x1024.Idx => added s x q p (y 0) (y 1)) ((Rect.unit (s := S5120x1024) ![o, 0] ![512, 1024] h).emb z) := by
  pointwise [k1_pay4, added]

  blk_point []

/-- Stores that hold that sum at their rows leave it in the block. -/
theorem sums (s : EReal) (x : FVec Ideal S1024x5120 .fp8e4m3) (q : FVec Ideal S1024x1024 .fp8e5m2) (p : FVec Ideal S5120x1024 .f32)
    (L : List (View.Piece (Elt Ideal) S5120x1024 .f32))
    (hL : View.PiecesOf (Val := Elt Ideal) (s := S5120x1024) (e := .f32) (fun y => added s x q p (y 0) (y 1)) L)
    (hc : ∀ y : S5120x1024.Idx, ∃ p ∈ L, y ∈ p.1.set) (a : Fin 5120) (b : Fin 1024) :
    View.canon L (ix2 a b) = added s x q p a b :=
  View.canon_apply_of_pieces (Val := Elt Ideal) (S := S5120x1024) (e := .f32) (fun y => added s x q p (y 0) (y 1)) L hL.mem (ix2 a b) (hc _)

/-- So they do over whatever was stored before them. -/
theorem sums_over (s : EReal) (x : FVec Ideal S1024x5120 .fp8e4m3) (q : FVec Ideal S1024x1024 .fp8e5m2) (p : FVec Ideal S5120x1024 .f32)
    (L' L : List (View.Piece (Elt Ideal) S5120x1024 .f32))
    (hL : View.PiecesOf (Val := Elt Ideal) (s := S5120x1024) (e := .f32) (fun y => added s x q p (y 0) (y 1)) L)
    (hc : ∀ y : S5120x1024.Idx, ∃ p ∈ L, y ∈ p.1.set) (a : Fin 5120) (b : Fin 1024) :
    View.canon (L ++ L') (ix2 a b) = added s x q p a b :=
  View.canon_append_of_piecesOf (Val := Elt Ideal) (s := S5120x1024) (e := .f32) (fun y => added s x q p (y 0) (y 1)) L' L hL (ix2 a b) (hc _)

/-- The rows of the carried block that the point adds: the sum there plus the block's entry, the sum elsewhere. -/
theorem last (o : ℕ) (off : Fin 2 → ℕ) (hoff : off = ![o, 0]) (inb : ∀ a, off a + (![160, 1024] : Fin 2 → ℕ) a ≤ S5120x1024.size a)
    (L : List (View.Piece (Elt Ideal) S5120x1024 .f32)) (G : Fin 5120 → Fin 1024 → EReal) (hL : ∀ a b, View.canon L (ix2 a b) = G a b)
    (dw : FVec Ideal S160x1024 .f32) (a : Fin 5120) (b : Fin 1024) :
    View.canon (⟨Rect.unit off ![160, 1024] inb, k1_pay1 (F := Ideal) (View.ld (View.canon L) (Rect.unit off ![160, 1024] inb)) dw⟩ :: L) (ix2 a b)
      = if h : o ≤ a.val ∧ a.val < o + 160 then G a b + dw (ix2 ⟨a.val - o, by omega⟩ b) else G a b := by
  subst hoff
  rw [← View.read_writes_junk_apply_eq_canon VO0_4]
  split
  · next h =>
    refine (View.read_writes_cons_rows_of_mem VO0_4 _ inb _ L (ix2 a b) (ix2 ⟨a.val - o, by omega⟩ b) rfl ?_ rfl).trans ?_
    · show a.val = o + (a.val - o); omega
    · rw [← hL]
      pointwise [k1_pay1]
      blk_point []
  · next h =>
    refine (View.read_writes_cons_rows_of_not_mem (W := 160) VO0_4 _ inb _ L (ix2 a b) rfl rfl ?_).trans ?_
    · show a.val < o ∨ o + 160 ≤ a.val; omega
    · rw [View.read_writes_junk_apply_eq_canon, hL]

theorem off_eq : ∀ t : Fin cfg1.N, k1_off1 (grid1.coords t) = ![160 * (t.val % 32), 0] := (by decide +kernel : ∀ t : Fin grid1.N, _)

section
variable (W : (c : Dev nD) → Valuation τ sig (Elt Ideal))

/-- The two scalars the point reads. -/
abbrev inv (c : Dev nD) (t : Fin cfg1.N) : EReal := View.ld (Val := Elt Ideal) (e' := .f32) (S := S2) (iblk W c 0 t) (Rect.unit ![0] ![1] inb_S2_S1_0) (Shape.Idx.first (by decide))
abbrev scl (c : Dev nD) (t : Fin cfg1.N) : EReal := View.ld (Val := Elt Ideal) (e' := .f32) (S := S2) (iblk W c 0 t) (Rect.unit ![1] ![1] inb_S2_S1_1) (Shape.Idx.first (by decide))
abbrev qs (c : Dev nD) (t : Fin cfg1.N) : FVec Ideal S1024x1024 .fp8e5m2 := k1_pay2 (F := Ideal) (inv W c t) (iblk W c 2 t)

theorem ld0 (X : FVec Ideal S2 .f32) (j : S1.Idx) : View.ld (Val := Elt Ideal) (e' := .f32) (S := S2) X (Rect.unit ![0] ![1] inb_S2_S1_0) j = X (ix1 0) := by
  pointwise []
theorem ld1 (X : FVec Ideal S2 .f32) (j : S1.Idx) : View.ld (Val := Elt Ideal) (e' := .f32) (S := S2) X (Rect.unit ![1] ![1] inb_S2_S1_1) j = X (ix1 1) := by
  pointwise []

theorem codesA (c : Dev nD) (t : Fin cfg1.N) (h0 : t.val % 32 = 0) : (outsAt0 W c t.val t.isLt).2 = qs W c t := by
  rw [outsAt0_A W c t h0]
  dsimp only
  unfold out0_A_5
  frame_out
theorem codesB (c : Dev nD) (t : Fin cfg1.N) (h0 : ¬t.val % 32 = 0) : (outsAt0 W c t.val t.isLt).2 = qs W c t := by
  rw [outsAt0_B W c t h0]
  dsimp only
  unfold out0_B_5
  frame_out

/-- What a point makes of the block it finds. -/
def stepped (c : Dev nD) (t : Fin cfg1.N) (p : FVec Ideal S5120x1024 .f32) (a : Fin 5120) (b : Fin 1024) : EReal :=
  if h : 160 * (t.val % 32) ≤ a.val ∧ a.val < 160 * (t.val % 32) + 160 then
    added (scl W c t) (iblk W c 1 t) (qs W c t) p a b
      + (show FVec Ideal S160x1024 .f32 from iblk W c 3 t) (ix2 ⟨a.val - 160 * (t.val % 32), by omega⟩ b)
  else added (scl W c t) (iblk W c 1 t) (qs W c t) p a b

theorem outB (c : Dev nD) (t : Fin cfg1.N) (h0 : ¬t.val % 32 = 0) (a : Fin 5120) (b : Fin 1024) :
    (show FVec Ideal S5120x1024 .f32 from (outsAt0 W c t.val t.isLt).1) (ix2 a b)
      = stepped W c t (outsAt0 W c (t.val - 1) (Nat.lt_of_le_of_lt (Nat.sub_le _ _) t.isLt)).1 a b := by
  rw [outsAt0_B W c t h0]
  dsimp only
  unfold out0_B_4
  frame_out
  refine last (160 * (t.val % 32)) _ (off_eq t) _ _ _ (fun a b => ?_) _ a b
  refine sums (scl W c t) (iblk W c 1 t) (qs W c t) (outsAt0 W c (t.val - 1) (Nat.lt_of_le_of_lt (Nat.sub_le _ _) t.isLt)).1 _ ?_ ?_ a b
  · exact ⟨chunk 4608 _ _ _ _ _ _, chunk 4096 _ _ _ _ _ _, chunk 3584 _ _ _ _ _ _, chunk 3072 _ _ _ _ _ _, chunk 2560 _ _ _ _ _ _,
      chunk 2048 _ _ _ _ _ _, chunk 1536 _ _ _ _ _ _, chunk 1024 _ _ _ _ _ _, chunk 512 _ _ _ _ _ _, chunk 0 _ _ _ _ _ _, trivial⟩
  · exact View.cover_of_tiled _ S512x1024.size rfl

theorem outA (c : Dev nD) (t : Fin cfg1.N) (h0 : t.val % 32 = 0) (a : Fin 5120) (b : Fin 1024) :
    (show FVec Ideal S5120x1024 .f32 from (outsAt0 W c t.val t.isLt).1) (ix2 a b) = stepped W c t (k1_pay3 (F := Ideal)) a b := by
  rw [outsAt0_A W c t h0]
  dsimp only
  unfold out0_A_4
  frame_open
  simp (disch := decide) only [↓View.readCov_skip, ↓View.readCov_fill]
  frame_out
  refine last (160 * (t.val % 32)) _ (off_eq t) _ _ _ (fun a b => ?_) _ a b
  refine sums_over (scl W c t) (iblk W c 1 t) (qs W c t) (k1_pay3 (F := Ideal)) [_] [_, _, _, _, _, _, _, _, _, _] ?_ ?_ a b
  · exact ⟨chunk 4608 _ _ _ _ _ _, chunk 4096 _ _ _ _ _ _, chunk 3584 _ _ _ _ _ _, chunk 3072 _ _ _ _ _ _, chunk 2560 _ _ _ _ _ _,
      chunk 2048 _ _ _ _ _ _, chunk 1536 _ _ _ _ _ _, chunk 1024 _ _ _ _ _ _, chunk 512 _ _ _ _ _ _, chunk 0 _ _ _ _ _ _, trivial⟩
  · exact View.cover_of_tiled _ S512x1024.size rfl
end
end Cert.KernelIdeal.Quant

end
-- ==== Proof.QuantValue.lean ====
/- What the quantise-and-multiply call leaves in its two arrays, as functions of the arrays it was given. -/
module

public import proofs.«01_k».proof.Proof.QuantStep

@[expose] public section

set_option maxRecDepth 16384

noncomputable section

namespace Cert.KernelIdeal.Quant

open Cert.KernelIdeal Cert.KernelIdeal.Gen
open Idealize.ShloMosaic Idealize.ShloMosaic.TcCoe Idealize.ShloMosaic.Tactic Idealize.SL.Sem

/-- One code: the gradient's entry times the inverse scale, clipped to the format's range. -/
def enc (i y : EReal) : EReal :=
  min (Ideal.ofBits .f32 0x47600000#32) (max (Ideal.ofBits .f32 0xC7600000#32) (y * i))

theorem pay2_at (i : EReal) (y : FVec Ideal S1024x1024 .bf16) (a b : Fin 1024) : k1_pay2 (F := Ideal) i y (ix2 a b) = enc i (y (ix2 a b)) := by
  pointwise [k1_pay2, enc]

theorem pay3_at (j : S5120x1024.Idx) : k1_pay3 (F := Ideal) j = 0 := by
  pointwise [k1_pay3]

theorem idx0 : ∀ t : Fin cfg1.N, win1_0.index t = ![0] := (by decide +kernel : ∀ t : Fin grid1.N, _)
theorem idx1 : ∀ t : Fin cfg1.N, win1_1.index t = ![t.val % 32, 0] := (by decide +kernel : ∀ t : Fin grid1.N, _)
theorem idx2 : ∀ t : Fin cfg1.N, win1_2.index t = ![t.val % 32, t.val / 32] := (by decide +kernel : ∀ t : Fin grid1.N, _)
theorem idx3 : ∀ t : Fin cfg1.N, win1_3.index t = ![t.val % 32, t.val / 32] := (by decide +kernel : ∀ t : Fin grid1.N, _)
theorem idx4 : ∀ t : Fin cfg1.N, win1_4.index t = ![0, t.val / 32] := (by decide +kernel : ∀ t : Fin grid1.N, _)
theorem idx5 : ∀ t : Fin cfg1.N, win1_5.index t = ![t.val % 32, t.val / 32] := (by decide +kernel : ∀ t : Fin grid1.N, _)

theorem eta2 {n k : ℕ} (y : (⟨2, ![n, k]⟩ : Shape).Idx) : y = ix2 (y 0) (y 1) := by
  funext i; fin_cases i <;> rfl

theorem lt_864 (t : Fin cfg1.N) : t.val < 864 := lt_of_lt_of_eq t.isLt N_1

theorem read0 (t : Fin cfg1.N) (X : FVec Ideal S2 .f32) (i : Fin 2) :
    (show FVec Ideal S2 .f32 from ((cfg1.win 0).blk t).view.read (Elt Ideal) X) (ix1 i) = X (ix1 i) := by
  blk_point [idx0 t]
theorem read1 (t : Fin cfg1.N) (X : FVec Ideal S32768x5120 .fp8e4m3) (r : Fin 1024) (a : Fin 5120) :
    (show FVec Ideal S1024x5120 .fp8e4m3 from ((cfg1.win 1).blk t).view.read (Elt Ideal) X) (ix2 r a)
      = X (ix2 ⟨t.val % 32 * 1024 + r.val, by omega⟩ a) := by
  blk_point [idx1 t]
theorem read2 (t : Fin cfg1.N) (X : FVec Ideal S32768x27648 .bf16) (r b : Fin 1024) :
    (show FVec Ideal S1024x1024 .bf16 from ((cfg1.win 2).blk t).view.read (Elt Ideal) X) (ix2 r b)
      = X (ix2 ⟨t.val % 32 * 1024 + r.val, by omega⟩ ⟨t.val / 32 * 1024 + b.val, by have := lt_864 t; omega⟩) := by
  blk_point [idx2 t]
theorem read3 (t : Fin cfg1.N) (X : FVec Ideal S5120x27648 .f32) (a : Fin 160) (b : Fin 1024) :
    (show FVec Ideal S160x1024 .f32 from ((cfg1.win 3).blk t).view.read (Elt Ideal) X) (ix2 a b)
      = X (ix2 ⟨t.val % 32 * 160 + a.val, by omega⟩ ⟨t.val / 32 * 1024 + b.val, by have := lt_864 t; omega⟩) := by
  blk_point [idx3 t]

theorem read4 (t : Fin cfg1.N) (X : FVec Ideal S5120x27648 .f32) (a : Fin 5120) (b : Fin 1024) :
    (show FVec Ideal S5120x1024 .f32 from ((cfg1.win 4).blk t).view.read (Elt Ideal) X) (ix2 a b)
      = X (ix2 a ⟨t.val / 32 * 1024 + b.val, by have := lt_864 t; omega⟩) := by
  blk_point [idx4 t]
theorem read5 (t : Fin cfg1.N) (X : FVec Ideal S32768x27648 .fp8e5m2) (r b : Fin 1024) :
    (show FVec Ideal S1024x1024 .fp8e5m2 from ((cfg1.win 5).blk t).view.read (Elt Ideal) X) (ix2 r b)
      = X (ix2 ⟨t.val % 32 * 1024 + r.val, by omega⟩ ⟨t.val / 32 * 1024 + b.val, by have := lt_864 t; omega⟩) := by
  blk_point [idx5 t]

section
variable (W : (c : Dev nD) → Valuation τ sig (Elt Ideal)) (c : Dev nD)

/-- The four arrays the call reads. -/
abbrev aS : FVec Ideal S2 .f32 := W c main_v36
abbrev aX : FVec Ideal S32768x5120 .fp8e4m3 := W c main_v0
abbrev aY : FVec Ideal S32768x27648 .bf16 := W c main_v1
abbrev aD : FVec Ideal S5120x27648 .f32 := W c main_arg3

theorem inv_eq (t : Fin cfg1.N) : inv W c t = aS W c (ix1 0) := (ld0 _ _).trans (read0 t (aS W c) 0)
theorem scl_eq (t : Fin cfg1.N) : scl W c t = aS W c (ix1 1) := (ld1 _ _).trans (read0 t (aS W c) 1)
theorem x_eq (t : Fin cfg1.N) (r : Fin 1024) (a : Fin 5120) : (show FVec Ideal S1024x5120 .fp8e4m3 from iblk W c 1 t) (ix2 r a)
    = aX W c (ix2 ⟨t.val % 32 * 1024 + r.val, by omega⟩ a) := read1 t (aX W c) r a
theorem y_eq (t : Fin cfg1.N) (r b : Fin 1024) : (show FVec Ideal S1024x1024 .bf16 from iblk W c 2 t) (ix2 r b)
    = aY W c (ix2 ⟨t.val % 32 * 1024 + r.val, by omega⟩ ⟨t.val / 32 * 1024 + b.val, by have := lt_864 t; omega⟩) := read2 t (aY W c) r b
theorem d_eq (t : Fin cfg1.N) (a : Fin 160) (b : Fin 1024) : (show FVec Ideal S160x1024 .f32 from iblk W c 3 t) (ix2 a b)
    = aD W c (ix2 ⟨t.val % 32 * 160 + a.val, by omega⟩ ⟨t.val / 32 * 1024 + b.val, by have := lt_864 t; omega⟩) := read3 t (aD W c) a b

theorem qs_eq (t : Fin cfg1.N) (r b : Fin 1024) : qs W c t (ix2 r b)
    = enc (aS W c (ix1 0)) (aY W c (ix2 ⟨t.val % 32 * 1024 + r.val, by omega⟩ ⟨t.val / 32 * 1024 + b.val, by have := lt_864 t; omega⟩)) :=
  (pay2_at _ _ r b).trans (congrArg₂ enc (inv_eq W c t) (y_eq W c t r b))

/-- The codes array. -/
theorem codes : (dat W c).arrAt 5 cfg1.N = fun i : S32768x27648.Idx => enc (aS W c (ix1 0)) (aY W c i) := by
  refine (dat W c).arrAt_eq_of_covers 5 _ (by decide +kernel) fun t hf y => ?_
  blk_simp
  rw [after0_5]
  have e : (outsAt0 W c t.val t.isLt).2 = qs W c t := by
    by_cases h : t.val % 32 = 0
    · exact codesA W c t h
    · exact codesB W c t h
  rw [e]
  refine (congrArg (qs W c t) (eta2 y)).trans ((qs_eq W c t _ _).trans ?_)
  exact (read5 t (fun i : S32768x27648.Idx => enc (aS W c (ix1 0)) (aY W c i)) _ _).symm.trans (congrArg (fun z => enc (aS W c (ix1 0)) (aY W c ((win1_5.blk t).view.emb z))) (eta2 y).symm)

/-- What one point adds to its block. -/
def term (t : Fin cfg1.N) (a : Fin 5120) (b : Fin 1024) : EReal :=
  (∑ r : Fin 1024, (show FVec Ideal S1024x5120 .fp8e4m3 from iblk W c 1 t) (ix2 r a) * qs W c t (ix2 r b)) * scl W c t
    + if h : 160 * (t.val % 32) ≤ a.val ∧ a.val < 160 * (t.val % 32) + 160 then
        (show FVec Ideal S160x1024 .f32 from iblk W c 3 t) (ix2 ⟨a.val - 160 * (t.val % 32), by omega⟩ b)
      else 0

theorem stepped_eq (t : Fin cfg1.N) (p : FVec Ideal S5120x1024 .f32) (a : Fin 5120) (b : Fin 1024) :
    stepped W c t p a b = p (ix2 a b) + term W c t a b := by
  unfold stepped term added
  split
  · rw [add_assoc]
  · rw [add_zero]

/-- At the last point of a run the block holds the terms of the run's 32 points. -/
theorem block_eq (t : Fin cfg1.N) (hr : t.val % 32 = 31) (a : Fin 5120) (b : Fin 1024) :
    (show FVec Ideal S5120x1024 .f32 from (outsAt0 W c t.val t.isLt).1) (ix2 a b)
      = ∑ s : Fin 32, term W c ⟨32 * (t.val / 32) + s.val, Pipeline.run_point_lt_of_flush t hr s⟩ a b :=
  (Pipeline.eq_sum_fin_of_reset_step_of_flush (M := EReal)
    (fun n h => (show FVec Ideal S5120x1024 .f32 from (outsAt0 W c n h).1) (ix2 a b)) 32 0 (fun t => term W c t a b)
    (fun t h => (outA W c t h a b).trans ((stepped_eq W c _ _ a b).trans (congrArg (· + term W c t a b) (pay3_at _))))
    (fun t h => (outB W c t h a b).trans (stepped_eq W c _ _ a b)) t hr).trans (zero_add _)

/-- The 32 row blocks of `D` hold one row of the array each once. -/
theorem row_sum (D : Fin 5120 → EReal) (a : Fin 5120) :
    (∑ s : Fin 32, if h : 160 * s.val ≤ a.val ∧ a.val < 160 * s.val + 160 then D ⟨s.val * 160 + (a.val - 160 * s.val), by omega⟩ else 0) = D a := by
  have ha := a.isLt
  rw [Finset.sum_eq_single (⟨a.val / 160, by omega⟩ : Fin 32)]
  · rw [dif_pos (by dsimp only; omega)]
    congr 1; ext; dsimp only; omega
  · intro s _ hs
    rw [dif_neg]
    intro h
    exact hs (by ext; dsimp only; omega)
  · intro h; exact absurd (Finset.mem_univ _) h

/-- A nonnegative finite factor leaves a sum. -/
theorem sum_mul_fac {n : ℕ} (f : Fin n → EReal) (s : EReal) (h0 : 0 ≤ s) (ht : s ≠ ⊤) : (∑ k, f k * s) = (∑ k, f k) * s := by
  induction n with
  | zero => simp
  | succ n ih => rw [Fin.sum_univ_succ, Fin.sum_univ_succ, ih, EReal.right_distrib_of_nonneg_of_ne_top h0 ht]

/-- The product array's entry at a row and a column. -/
def prod (a : Fin 5120) (l : Fin 27648) : EReal :=
  aD W c (ix2 a l) + (∑ r : Fin 32768, aX W c (ix2 r a) * enc (aS W c (ix1 0)) (aY W c (ix2 r l))) * aS W c (ix1 1)

/-- A point's term by the step within the run. -/
theorem term_eq (j : Fin 27) (s : Fin 32) (t : Fin cfg1.N) (ht : t.val = 32 * j.val + s.val) (a : Fin 5120) (b : Fin 1024) :
    term W c t a b
      = (∑ r : Fin 1024, aX W c (ix2 ⟨s.val * 1024 + r.val, by omega⟩ a)
          * enc (aS W c (ix1 0)) (aY W c (ix2 ⟨s.val * 1024 + r.val, by omega⟩ ⟨j.val * 1024 + b.val, by omega⟩))) * aS W c (ix1 1)
        + if h : 160 * s.val ≤ a.val ∧ a.val < 160 * s.val + 160 then
            aD W c (ix2 ⟨s.val * 160 + (a.val - 160 * s.val), by omega⟩ ⟨j.val * 1024 + b.val, by omega⟩) else 0 := by
  have h1 : t.val % 32 = s.val := by omega
  have h2 : t.val / 32 = j.val := by omega
  unfold term
  refine congrArg₂ (· + ·) (congrArg₂ (· * ·) (Finset.sum_congr rfl fun r _ => congrArg₂ (· * ·) ?_ ?_) (scl_eq W c t)) ?_
  · rw [x_eq]; congr 3; omega
  · rw [qs_eq]; congr 4 <;> omega
  · by_cases h : 160 * s.val ≤ a.val ∧ a.val < 160 * s.val + 160
    · rw [dif_pos h, dif_pos (by rw [h1]; exact h), d_eq]
      exact congrArg₂ (fun p q => aD W c (ix2 p q)) (Fin.ext (by dsimp only; omega)) (Fin.ext (by dsimp only; omega))
    · rw [dif_neg h, dif_neg (by rw [h1]; exact h)]

theorem run_eq (h0 : 0 ≤ aS W c (ix1 1)) (hT : aS W c (ix1 1) ≠ ⊤) (t : Fin cfg1.N) (hr : t.val % 32 = 31) (a : Fin 5120) (b : Fin 1024) :
    (show FVec Ideal S5120x1024 .f32 from (outsAt0 W c t.val t.isLt).1) (ix2 a b)
      = prod W c a ⟨t.val / 32 * 1024 + b.val, by have := lt_864 t; omega⟩ := by
  have hl := lt_864 t
  rw [block_eq W c t hr a b]
  rw [Finset.sum_congr rfl fun s _ => term_eq W c ⟨t.val / 32, by omega⟩ s _ rfl a b]
  rw [Finset.sum_add_distrib, sum_mul_fac _ _ h0 hT, row_sum (fun a' => aD W c (ix2 a' ⟨t.val / 32 * 1024 + b.val, by omega⟩)) a, add_comm]
  unfold prod
  refine congrArg (fun q : EReal => aD W c (ix2 a ⟨t.val / 32 * 1024 + b.val, by omega⟩) + q * aS W c (ix1 1)) ?_
  exact Fin.sum_mul_add_congr fun s k hl => rfl

/-- The product array. -/
theorem out (h0 : 0 ≤ aS W c (ix1 1)) (hT : aS W c (ix1 1) ≠ ⊤) :
    (dat W c).arrAt 4 cfg1.N = fun i : S5120x27648.Idx => prod W c (i 0) (i 1) := by
  refine (dat W c).arrAt_eq_of_covers 4 _ (by decide +kernel) fun t hf y => ?_
  blk_simp
  rw [after0_4]
  refine (congrArg (show FVec Ideal S5120x1024 .f32 from (outsAt0 W c t.val t.isLt).1) (eta2 y)).trans ((run_eq W c h0 hT t ((flush1_4 t).mp hf) _ _).trans ?_)
  exact (read4 t (fun i : S5120x27648.Idx => prod W c (i 0) (i 1)) _ _).symm.trans (congrArg (fun z => (fun i : S5120x27648.Idx => prod W c (i 0) (i 1)) ((win1_4.blk t).view.emb z)) (eta2 y).symm)
end
end Cert.KernelIdeal.Quant

end
-- ==== Proof.RefValue.lean ====
/- What the region of the reference leaves in its two arrays. -/
module

public import proofs.«01_k».proof.Proof.RHost
public import proofs.«01_k».proof.Proof.Gen.ReferenceIdeal.Value
public import Idealize.ShloMosaic.Lib.Pipeline.ValueKit
public import Idealize.ShloMosaic.Lib.Pipeline.ReadBack

@[expose] public section

set_option maxRecDepth 16384

noncomputable section

namespace Cert.ReferenceIdeal.RVal

open Cert.ReferenceIdeal Cert.ReferenceIdeal.Gen
open Idealize.ShloMosaic Idealize.ShloMosaic.TcCoe Idealize.ShloMosaic.Tactic Idealize.SL.Sem

variable (m : (ℓ : Loc nD τ sig) → Buf (Elt Ideal) ℓ)

theorem idx0 : win0_0.index t0_0 = ![0] := by decide +kernel
theorem idx1 : win0_1.index t0_0 = ![0] := by decide +kernel
theorem idx2 : win0_2.index t0_0 = ![0, 0, 0] := by decide +kernel
theorem idx3 : win0_3.index t0_0 = ![0, 0, 0] := by decide +kernel
theorem idx4 : win0_4.index t0_0 = ![0, 0] := by decide +kernel
theorem blk2 (c : Dev nD) : iblk m c 2 t0_0 = m ((c : Thread nD τ).loc main_arg0) := by
  funext i
  blk_point [iblk, V_main_arg0, idx2]
theorem blk3 (c : Dev nD) : iblk m c 3 t0_0 = m ((c : Thread nD τ).loc main_arg2) := by
  funext i
  blk_point [iblk, V_main_arg2, idx3]
theorem blk4 (c : Dev nD) : iblk m c 4 t0_0 = m ((c : Thread nD τ).loc main_arg3) := by
  funext i
  blk_point [iblk, V_main_arg3, idx4]
theorem read0 (X : FVec Ideal S1 .f32) (i : S1.Idx) : (show FVec Ideal S1 .f32 from ((cfg0.win 0).blk t0_0).view.read (Elt Ideal) X) i = X (ix1 0) := by
  blk_point [idx0]
theorem read1 (X : FVec Ideal S1 .f32) (i : S1.Idx) : (show FVec Ideal S1 .f32 from ((cfg0.win 1).blk t0_0).view.read (Elt Ideal) X) i = X (ix1 0) := by
  blk_point [idx1]
theorem blk0 (c : Dev nD) (i : S1.Idx) : (show FVec Ideal S1 .f32 from iblk m c 0 t0_0) i = (V m c main_v17 : FVec Ideal S1 .f32) (ix1 0) :=
  read0 _ i
theorem blk1 (c : Dev nD) (i : S1.Idx) : (show FVec Ideal S1 .f32 from iblk m c 1 t0_0) i = (V m c main_v19 : FVec Ideal S1 .f32) (ix1 0) :=
  read1 _ i

theorem codes (c : Dev nD) : (dats m 0 c).arrAt 6 cfg0.N = k0_pay1 (F := Ideal) (m ((c : Thread nD τ).loc main_arg2)) ((V m c main_v17 : FVec Ideal S1 .f32) (ix1 0)) := by
  refine (dats m 0 c).arrAt_eq_of_after_last 6 t0_0 (by decide +kernel) _ fun j => ?_
  blk_simp
  rw [after0_6]
  unfold outsAt0
  frame_out
  simp only [read_unread_whole]
  rw [blk3]
  exact congrArg (fun v => k0_pay1 (F := Ideal) (m ((c : Thread nD τ).loc main_arg2)) v j) (blk0 m c _)

theorem out (c : Dev nD) : (dats m 0 c).arrAt 5 cfg0.N = k0_pay2 (F := Ideal) (m ((c : Thread nD τ).loc main_arg2)) ((V m c main_v17 : FVec Ideal S1 .f32) (ix1 0)) (m ((c : Thread nD τ).loc main_arg0)) (m ((c : Thread nD τ).loc main_arg3))  ((V m c main_v19 : FVec Ideal S1 .f32) (ix1 0)) := by
  refine (dats m 0 c).arrAt_eq_of_after_last 5 t0_0 (by decide +kernel) _ fun j => ?_
  blk_simp
  rw [after0_5]
  unfold outsAt0
  frame_out
  simp only [read_unread_whole]
  rw [blk2, blk3, blk4]
  exact congrArg₂ (fun u v => k0_pay2 (F := Ideal) (m ((c : Thread nD τ).loc main_arg2)) u (m ((c : Thread nD τ).loc main_arg0)) (m ((c : Thread nD τ).loc main_arg3)) v j) (blk0 m c _) (blk1 m c _)
end Cert.ReferenceIdeal.RVal
-- ==== Proof.Equal.lean ====
/- The arrays the kernel returns are the arrays the reference returns: the greatest magnitude, the scales, the codes and the
   product, each as one function of the arguments. -/
module

public import proofs.«01_k».proof.Proof.Run
public import proofs.«01_k».proof.Proof.ScaleEq
public import proofs.«01_k».proof.Proof.AmaxValue
public import proofs.«01_k».proof.Proof.QuantValue
public import proofs.«01_k».proof.Proof.RefValue

@[expose] public section

set_option maxRecDepth 16384

noncomputable section

namespace Cert.Equal

open Idealize.ShloMosaic Idealize.ShloMosaic.TcCoe Idealize.ShloMosaic.Tactic Idealize.SL.Sem
open Cert.KernelIdeal.Quant (enc)
open Cert.KernelIdeal.KHost Cert.ReferenceIdeal.RHost Cert.Scale

/-- The gradient and the rows as the programs are given them. -/
abbrev Grad : Type := FVec Ideal Cert.KernelIdeal.S4x8192x27648 .bf16
abbrev Rows : Type := FVec Ideal Cert.KernelIdeal.S4x8192x5120 .fp8e4m3

/-- The two leading axes flattened to one, read at a row. -/
theorem flat_at (D : Grad) (r : Fin 32768) (l : Fin 27648) (h) :
    (shapeCast Cert.KernelIdeal.S32768x27648 D h : FVec Ideal Cert.KernelIdeal.S32768x27648 .bf16) (ix2 r l)
      = D (ix3 ⟨r.val / 8192, by omega⟩ ⟨r.val % 8192, by omega⟩ l) := by
  pointwise []

theorem flatX_at (D : Rows) (r : Fin 32768) (l : Fin 5120) (h) :
    (shapeCast Cert.KernelIdeal.S32768x5120 D h : FVec Ideal Cert.KernelIdeal.S32768x5120 .fp8e4m3) (ix2 r l)
      = D (ix3 ⟨r.val / 8192, by omega⟩ ⟨r.val % 8192, by omega⟩ l) := by
  pointwise []

theorem unflat_at (D : FVec Ideal Cert.KernelIdeal.S32768x27648 .fp8e5m2) (b : Fin 4) (s : Fin 8192) (l : Fin 27648) (h) :
    (shapeCast Cert.KernelIdeal.S4x8192x27648 D h : FVec Ideal Cert.KernelIdeal.S4x8192x27648 .fp8e5m2) (ix3 b s l)
      = D (ix2 ⟨b.val * 8192 + s.val, by omega⟩ l) := by
  pointwise []

theorem ext3 (f g : FVec Ideal Cert.KernelIdeal.S4x8192x27648 .fp8e5m2) (h : ∀ (b : Fin 4) (s : Fin 8192) (l : Fin 27648), f (ix3 b s l) = g (ix3 b s l)) : f = g :=
  funext fun i => by rw [eq_ix3 i]; exact h _ _ _
theorem ext2 (f g : FVec Ideal Cert.KernelIdeal.S5120x27648 .f32) (h : ∀ (a : Fin 5120) (l : Fin 27648), f (ix2 a l) = g (ix2 a l)) : f = g :=
  funext fun i => by rw [eq_ix2 i]; exact h _ _

/-- The greatest magnitude is at most `z` when every magnitude is. -/
theorem rmax_le (D : Grad) (z : EReal) : rmax D ix0 ≤ z ↔ ∀ (b : Fin 4) (s : Fin 8192) (l : Fin 27648), FloatOps.absf (F := Ideal) (φ := .bf16) (D (ix3 b s l)) ≤ z := by
  have h : rmax D ix0 = Finset.fold max ⊥ (fun k : Fin 4 × Fin 8192 × Fin 27648 => FloatOps.absf (F := Ideal) (φ := .bf16) (D (ix3 k.1 k.2.1 k.2.2))) Finset.univ := by
    pointwise [rmax]
    rw [show Ideal.ofBits FTy.bf16 65408#16 = ⊥ by simp [Ideal.ofBits, Ideal.ieee]]
  rw [h, Finset.fold_max_le]
  simp

theorem pay1_at (D : Grad) (i : EReal) (b : Fin 4) (s : Fin 8192) (l : Fin 27648) :
    Cert.ReferenceIdeal.Gen.k0_pay1 (F := Ideal) D i (ix3 b s l) = enc i (D (ix3 b s l)) := by
  pointwise [Cert.ReferenceIdeal.Gen.k0_pay1, Cert.KernelIdeal.Quant.enc]

theorem pay2_at (D : Grad) (i : EReal) (X : Rows) (w : FVec Ideal Cert.KernelIdeal.S5120x27648 .f32) (s : EReal) (a : Fin 5120) (l : Fin 27648) :
    Cert.ReferenceIdeal.Gen.k0_pay2 (F := Ideal) D i X w s (ix2 a l)
      = w (ix2 a l) + (∑ r : Fin 32768, X (ix3 ⟨r.val / 8192, by omega⟩ ⟨r.val % 8192, by omega⟩ a)
          * Cert.ReferenceIdeal.Gen.k0_pay1 (F := Ideal) D i (ix3 ⟨r.val / 8192, by omega⟩ ⟨r.val % 8192, by omega⟩ l)) * s := by
  pointwise [Cert.ReferenceIdeal.Gen.k0_pay2]

section
open Cert.KernelIdeal Cert.KernelIdeal.Gen
variable (m : (ℓ : Loc nD τ sig) → Buf (Elt Ideal) ℓ) (c : Dev nD)

/-- The kernel's arguments. -/
abbrev kX : Rows := m ((c : Thread nD τ).loc main_arg0)
abbrev kS : FVec Ideal S_ .f32 := m ((c : Thread nD τ).loc main_arg1)
abbrev kD : Grad := m ((c : Thread nD τ).loc main_arg2)
abbrev kW : FVec Ideal S5120x27648 .f32 := m ((c : Thread nD τ).loc main_arg3)

theorem cast_at (X : FVec Ideal S1x1 .f32) (i : S_.Idx) (h) : ∃ j, (shapeCast S_ X h : FVec Ideal S_ .f32) i = X j := ⟨_, rfl⟩

theorem v1_at (r : Fin 32768) (l : Fin 27648) : (show FVec Ideal S32768x27648 .bf16 from V1 m c main_v1) (ix2 r l)
    = kD m c (ix3 ⟨r.val / 8192, by omega⟩ ⟨r.val % 8192, by omega⟩ l) :=
  (congrFun (V1_v1 m c) (ix2 r l)).trans (flat_at (kD m c) r l _)

/-- The two greatest magnitudes agree. -/
theorem amax_eq : amax (Run.outs m) c = rmax (kD m c) := by
  funext i
  obtain rfl : i = ix0 := funext fun a => a.elim0
  refine eq_of_forall_ge_iff fun z => Iff.trans ?_ (rmax_le (kD m c) z).symm
  unfold Cert.KernelIdeal.KHost.amax
  rw [Run.outs_v2]
  obtain ⟨j, hj⟩ := cast_at (show FVec Ideal S1x1 .f32 from (Amax.dat (V1 m) c).arrAt 1 cfg0.N) ix0 _
  refine (iff_of_eq (congrArg (fun q : EReal => q ≤ z) hj)).trans ((Amax.amax_le (V1 m) c j z).trans ?_)
  have e := fun r l => iff_of_eq (congrArg (fun q : EReal => FloatOps.absf (F := Ideal) (φ := .bf16) q ≤ z) (v1_at m c r l))
  refine ⟨fun h b s l => ?_, fun h r l => (e r l).mpr (h _ _ _)⟩
  have := (e ⟨b.val * 8192 + s.val, by omega⟩ l).mp (h _ _)
  have e' : kD m c (ix3 ⟨(b.val * 8192 + s.val) / 8192, by omega⟩ ⟨(b.val * 8192 + s.val) % 8192, by omega⟩ l) = kD m c (ix3 b s l) :=
    congrArg₂ (fun (p : Fin 4) (q : Fin 8192) => kD m c (ix3 p q l)) (Fin.ext (by dsimp only; omega)) (Fin.ext (by dsimp only; omega))
  exact (iff_of_eq (congrArg (fun q : EReal => FloatOps.absf (F := Ideal) (φ := .bf16) q ≤ z) e')).mp this

/-- The scalars and arrays the quantise-and-multiply call reads. -/
theorem aS_eq : Quant.aS (Run.W7 m) c = kpair (kS m c) (rmax (kD m c)) := by
  rw [← amax_eq, ← Run.V7_outs]
  exact V7_v36 m (Run.outs m) c
theorem aS_0 : Quant.aS (Run.W7 m) c (ix1 0) = kinv (rmax (kD m c)) ix0 := by
  rw [aS_eq]; pointwise [kpair]
theorem aS_1 : Quant.aS (Run.W7 m) c (ix1 1) = kS m c ix0 * kscale (rmax (kD m c)) ix0 := by
  rw [aS_eq]; pointwise [kpair]
theorem aX_eq (r : Fin 32768) (a : Fin 5120) : Quant.aX (Run.W7 m) c (ix2 r a) = kX m c (ix3 ⟨r.val / 8192, by omega⟩ ⟨r.val % 8192, by omega⟩ a) :=
  (congrFun (V7_v0 m (Run.outsA m) c) (ix2 r a)).trans (flatX_at (kX m c) r a _)
theorem aY_eq (r : Fin 32768) (l : Fin 27648) : Quant.aY (Run.W7 m) c (ix2 r l) = kD m c (ix3 ⟨r.val / 8192, by omega⟩ ⟨r.val % 8192, by omega⟩ l) :=
  (congrFun (V7_v1 m (Run.outsA m) c) (ix2 r l)).trans (flat_at (kD m c) r l _)
theorem aD_eq : Quant.aD (Run.W7 m) c = kW m c := V7_arg3 m (Run.outsA m) c

/-- The codes the kernel returns. -/
theorem codes_eq : (show FVec Ideal S4x8192x27648 .fp8e5m2 from V9 m (Run.outs m) c main_v38)
    = Cert.ReferenceIdeal.Gen.k0_pay1 (F := Ideal) (kD m c) (rinv (rmax (kD m c)) ix0) := by
  obtain ⟨k, -, -, -, hi, -, hr⟩ := Cert.ScaleEq.scale_eq (rmax (kD m c))
  refine ext3 _ _ fun b s l => ?_
  rw [pay1_at, hr, ← hi, ← aS_0]
  refine (congrFun (V9_v38 m (Run.outs m) c) _).trans ((unflat_at _ b s l _).trans ?_)
  rw [Run.outs_v37_1]
  refine (congrFun (Quant.codes (Run.W7 m) c) (ix2 ⟨b.val * 8192 + s.val, _⟩ l)).trans ?_
  refine congrArg (enc _) ((aY_eq m c _ _).trans (congrArg (kD m c) ?_))
  congr 1 <;> (ext; dsimp only; omega)

/-- The scale the kernel returns. -/
theorem scale_eq : (show FVec Ideal S_ .f32 from V9 m (Run.outs m) c main_v26) = rscale (rmax (kD m c)) := by
  obtain ⟨k, -, -, hs, -, hr, -⟩ := Cert.ScaleEq.scale_eq (rmax (kD m c))
  refine (V9_v26 m (Run.outs m) c).trans ?_
  rw [amax_eq]
  funext i
  obtain rfl : i = ix0 := funext fun a => a.elim0
  exact hs.trans hr.symm

/-- The product the kernel returns, when the rows' scale is a nonnegative finite number. -/
theorem out_eq (h0 : 0 ≤ kS m c ix0) (hT : kS m c ix0 ≠ ⊤) : (show FVec Ideal S5120x27648 .f32 from V9 m (Run.outs m) c main_v37_0)
    = Cert.ReferenceIdeal.Gen.k0_pay2 (F := Ideal) (kD m c) (rinv (rmax (kD m c)) ix0) (kX m c) (kW m c) (kS m c ix0 * rscale (rmax (kD m c)) ix0) := by
  obtain ⟨k, -, -, hs, hi, hr, hri⟩ := Cert.ScaleEq.scale_eq (rmax (kD m c))
  have e0 : 0 ≤ Quant.aS (Run.W7 m) c (ix1 1) := by
    rw [aS_1, hs]; exact mul_nonneg h0 (pw_pos k).le
  have eT : Quant.aS (Run.W7 m) c (ix1 1) ≠ ⊤ := by
    rw [aS_1, hs]
    lift kS m c ix0 to ℝ using ⟨hT, ne_of_gt (lt_of_lt_of_le EReal.bot_lt_zero h0)⟩ with s
    unfold pw
    rw [← EReal.coe_mul]; exact EReal.coe_ne_top _
  refine ext2 _ _ fun a l => ?_
  rw [pay2_at]
  refine (congrFun (V9_v37_0 m (Run.outs m) c) _).trans ?_
  rw [Run.outs_v37_0]
  refine (congrFun (Quant.out (Run.W7 m) c e0 eT) (ix2 a l)).trans ?_
  show Quant.prod (Run.W7 m) c a l = _
  unfold Quant.prod
  rw [aS_1, aS_0, aD_eq, hs, hi, hr, hri]
  refine congrArg (fun q : EReal => kW m c (ix2 a l) + q * (kS m c ix0 * pw k)) (Finset.sum_congr rfl fun r _ => ?_)
  rw [aX_eq, aY_eq, pay1_at]
end
end Cert.Equal

end
-- ==== Proof.Algebraic.lean ====
/- The kernel and the reference, run on the extended reals from memories with the same arguments, return the same arrays. -/
module

public import proofs.«01_k».proof.Defs
public import proofs.«01_k».proof.Proof.Frames
public import proofs.«01_k».proof.Proof.Equal

@[expose] public section

set_option maxRecDepth 16384

noncomputable section

namespace Cert.Algebraic

open Idealize.ShloMosaic Idealize.ShloMosaic.TcCoe Idealize.ShloMosaic.Tactic Idealize.SL.Sem
open Cert.ReferenceIdeal.RHost Cert.Equal

/-- The precondition says that the scale of the codes is nonnegative and finite. -/
theorem bounds (x : FVec Ideal Cert.Pre_x_scale_is_a_scale.S_ .f32) (X : FVec Ideal Cert.Pre_x_scale_is_a_scale.S4x8192x5120 .fp8e4m3)
    (D : FVec Ideal Cert.Pre_x_scale_is_a_scale.S4x8192x27648 .bf16) (w : FVec Ideal Cert.Pre_x_scale_is_a_scale.S5120x27648 .f32)
    [Cert.Pre_x_scale_is_a_scale.Facts] (h : Cert.Pre_x_scale_is_a_scale.fn (F := Ideal) X x D w = fun _ => 1#1) : 0 ≤ x ix0 ∧ x ix0 ≠ ⊤ := by
  have h := congrFun h ix0
  revert h
  pointwise [Cert.Pre_x_scale_is_a_scale.fn]
  rw [Cert.ScaleEq.top_eq]
  intro h
  by_cases h0 : 0 ≤ x ix0 <;> by_cases hT : x ix0 < ⊤ <;> simp [h0, hT, IntOp.andi] at h ⊢
  exact hT.ne

section
open Cert.ReferenceIdeal Cert.ReferenceIdeal.Gen
variable (m : (ℓ : Loc nD τ sig) → Buf (Elt Ideal) ℓ) (g : Dev nD → PrngReg)

/-- The reference's arguments. -/
abbrev rX (c : Dev nD) : Rows := m ((c : Thread nD τ).loc main_arg0)
abbrev rS (c : Dev nD) : FVec Ideal S_ .f32 := m ((c : Thread nD τ).loc main_arg1)
abbrev rD (c : Dev nD) : Grad := m ((c : Thread nD τ).loc main_arg2)
abbrev rW (c : Dev nD) : FVec Ideal S5120x27648 .f32 := m ((c : Thread nD τ).loc main_arg3)

theorem one_at (A : FVec Ideal S_ .f32) (h) : (shapeCast S1 A h : FVec Ideal S1 .f32) (ix1 0) = A ix0 := by
  pointwise []

/-- A scalar laid out as one entry, read at that entry. -/
theorem at_of {V : FVec Ideal S1 .f32} {A : FVec Ideal S_ .f32} {h} (e : V = shapeCast S1 A h) : V (ix1 0) = A ix0 := by
  rw [e]; exact one_at A h

theorem v17_at (c : Dev nD) : (V m c main_v17 : FVec Ideal S1 .f32) (ix1 0) = rinv (rmax (rD m c)) ix0 :=
  at_of (A := rinv (rmax (rD m c))) (V_v17 m c)
theorem v19_at (c : Dev nD) : (V m c main_v19 : FVec Ideal S1 .f32) (ix1 0) = rS m c ix0 * rscale (rmax (rD m c)) ix0 :=
  at_of (A := mulf (rS m c) (rscale (rmax (rD m c)))) (V_v19 m c)

/-- What the reference returns. -/
theorem ref_run : θ_run (defs (F := Ideal)) (onTc (τ := τ) (main (F := Ideal))) ⟨m, fun _ => 0, g⟩ (fun r => ∀ c : Dev nD,
    r.2.mem ((c.tc : Thread nD τ).loc main_v20_0)
        = k0_pay2 (F := Ideal) (rD m c) (rinv (rmax (rD m c)) ix0) (rX m c) (rW m c) (rS m c ix0 * rscale (rmax (rD m c)) ix0)
    ∧ r.2.mem ((c.tc : Thread nD τ).loc main_v20_1) = k0_pay1 (F := Ideal) (rD m c) (rinv (rmax (rD m c)) ix0)
    ∧ r.2.mem ((c.tc : Thread nD τ).loc main_v13) = rscale (rmax (rD m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run defs _ _).mono (fun r h c => ⟨?_, ?_, ?_, Cert.ReferenceIdeal.Value.kept_main_arg0 m r h c, Cert.ReferenceIdeal.Value.kept_main_arg1 m r h c,
    Cert.ReferenceIdeal.Value.kept_main_arg2 m r h c, Cert.ReferenceIdeal.Value.kept_main_arg3 m r h c⟩) (run_main m g)
  · refine (Cert.ReferenceIdeal.Value.post5 m r h c).trans ((RVal.out m c).trans ?_)
    rw [v17_at, v19_at]
  · refine (Cert.ReferenceIdeal.Value.post6 m r h c).trans ((RVal.codes m c).trans ?_)
    rw [v17_at]
  · exact ((h c).2 main_v13 (Pipeline.mem_restRefs_of main_v13 (by decide) (by decide))).trans (V_v13 m c)
end

section
open Cert.KernelIdeal Cert.KernelIdeal.Gen
variable (m : (ℓ : Loc nD τ sig) → Buf (Elt Ideal) ℓ) (g : Dev nD → PrngReg)

/-- What the kernel returns. -/
theorem ker_run (hs : ∀ c, 0 ≤ kS m c ix0 ∧ kS m c ix0 ≠ ⊤) :
    θ_run (defs (F := Ideal)) (onTc (τ := τ) (main (F := Ideal))) ⟨m, fun _ => 0, g⟩ (fun r => ∀ c : Dev nD,
    r.2.mem ((c.tc : Thread nD τ).loc main_v37_0)
        = Cert.ReferenceIdeal.Gen.k0_pay2 (F := Ideal) (kD m c) (rinv (rmax (kD m c)) ix0) (kX m c) (kW m c) (kS m c ix0 * rscale (rmax (kD m c)) ix0)
    ∧ r.2.mem ((c.tc : Thread nD τ).loc main_v38) = Cert.ReferenceIdeal.Gen.k0_pay1 (F := Ideal) (kD m c) (rinv (rmax (kD m c)) ix0)
    ∧ r.2.mem ((c.tc : Thread nD τ).loc main_v26) = rscale (rmax (kD m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(h.1 c _ (Run.mem_uc main_v37_0 rfl)).trans (out_eq m c (hs c).1 (hs c).2),
    (h.1 c _ (Run.mem_uc main_v38 rfl)).trans (codes_eq m c), (h.1 c _ (Run.mem_uc main_v26 rfl)).trans (scale_eq m c),
    Frames.kept m r h.1 c⟩) (Run.run m g)
end

theorem algebraic [Cert.Pre_x_scale_is_a_scale.Facts] : Cert.algebraic_KernelIdeal_ReferenceIdeal_pre_x_scale_is_a_scale := by
  intro m g m' g' hpre hm
  refine ⟨_, _, _, ker_run m g fun c => bounds _ _ _ _ (hpre c), (θ_run _ _ _).mono (fun r h c => ?_) (ref_run m' g')⟩
  obtain ⟨e0, e1, e2, e3⟩ := hm c
  obtain ⟨h0, h1, h2, h3⟩ := h c
  refine ⟨h0.trans ?_, h1.trans ?_, h2.trans ?_, h3⟩
  · rw [show rD m' c = kD m c from e2, show rX m' c = kX m c from e0, show rW m' c = kW m c from e3, show rS m' c = kS m c from e1]
  · rw [show rD m' c = kD m c from e2]
  · rw [show rD m' c = kD m c from e2]

end Cert.Algebraic

end
-- ==== Proof.lean ====
/- The certificate: the kernel and the reference run and leave their arguments and counters as they should, the kernel's
   idealization is its own text, and on the extended reals the two return the same three arrays. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, ⟨⟩,
    fun m g _ => Cert.KernelIdeal.Frames.frame_printed m g,
    fun m g _ => Cert.KernelIdeal.Frames.frame m g,
    fun m g _ => Cert.KernelIdeal.Frames.frame m g,
    fun m g _ => Cert.ReferenceIdeal.Gen.frame m g,
    fun m g _ => Cert.ReferenceIdeal.Gen.frame m g,
    trivial,
    @Cert.Algebraic.algebraic ⟨⟩⟩

end Cert.Proof

end
